-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x8192x4096 : Shape := ⟨3, ![2, 8192, 4096]⟩
abbrev S4096x64 : Shape := ⟨2, ![4096, 64]⟩
abbrev S_ : Shape := ⟨0, ![]⟩

class Facts : Prop where
  bcast_S_S2x8192x4096 : S_.BroadcastsInDim S2x8192x4096 (![] : Fin 0 → Fin S2x8192x4096.rank)
  reducesTo_S2x8192x4096_S_d0_1_2 : S2x8192x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S2x8192x4096 .f32) (main_arg1 : FVec F S4096x64 .f32) : IVec S_ 1 :=
  let main_v0 : FVec F S2x8192x4096 .f32 := Host.absf main_arg0
  let main_cst : FVec F S_ .f32 := constant S_ .f32 0x7F800000#32
  let main_v1 : FVec F S2x8192x4096 .f32 := broadcastInDim S2x8192x4096 ![] bcast_S_S2x8192x4096 main_cst
  let main_v2 : IVec S2x8192x4096 1 := cmpf .olt main_v0 main_v1
  let main_c : IVec S_ 1 := constantI S_ 1 1#1
  let main_v3 : IVec S_ 1 := (fun x v => Host.reduce IntOp.andi x v reducesTo_S2x8192x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  main_v8
-- ==== Kernel.lean ====
abbrev S2x8192x4096 : Shape := ⟨3, ![2, 8192, 4096]⟩
abbrev S4096x64 : Shape := ⟨2, ![4096, 64]⟩
abbrev S16384x4096 : Shape := ⟨2, ![16384, 4096]⟩
abbrev S16384x8 : Shape := ⟨2, ![16384, 8]⟩
abbrev S64x1 : Shape := ⟨2, ![64, 1]⟩
abbrev S1x1 : Shape := ⟨2, ![1, 1]⟩
abbrev S1024x4096 : Shape := ⟨2, ![1024, 4096]⟩
abbrev S1024x8 : Shape := ⟨2, ![1024, 8]⟩
abbrev S1024x64 : Shape := ⟨2, ![1024, 64]⟩
abbrev S64x1024 : Shape := ⟨2, ![64, 1024]⟩
abbrev S1024 : Shape := ⟨1, ![1024]⟩
abbrev S1x1024 : Shape := ⟨2, ![1, 1024]⟩
abbrev S8x1024 : Shape := ⟨2, ![8, 1024]⟩
abbrev S64 : Shape := ⟨1, ![64]⟩
abbrev S1x64x1 : Shape := ⟨3, ![1, 64, 1]⟩
abbrev S1 : Shape := ⟨1, ![1]⟩
abbrev S1x1x1 : Shape := ⟨3, ![1, 1, 1]⟩
abbrev S2x8192x8 : Shape := ⟨3, ![2, 8192, 8]⟩
abbrev S_ : Shape := ⟨0, ![]⟩

abbrev nBuf : Space → Nat
  | .hbm => 11
  | .vmem => 9
  | .smem => 0
  | _ => 0

abbrev bufTy : (tb : Table) → Fin (tcTables nBuf tb) → BufTy
  | .hbm, ⟨0, _⟩ => ⟨S2x8192x4096, .f32⟩
  | .hbm, ⟨1, _⟩ => ⟨S4096x64, .f32⟩
  | .hbm, ⟨2, _⟩ => ⟨S16384x4096, .f32⟩
  | .hbm, ⟨3, _⟩ => ⟨S4096x64, .bf16⟩
  | .hbm, ⟨4, _⟩ => ⟨S16384x8, .f32⟩
  | .hbm, ⟨5, _⟩ => ⟨S16384x8, .i32⟩
  | .hbm, ⟨6, _⟩ => ⟨S64x1, .f32⟩
  | .hbm, ⟨7, _⟩ => ⟨S1x1, .f32⟩
  | .hbm, ⟨8, _⟩ => ⟨S2x8192x8, .f32⟩
  | .hbm, ⟨9, _⟩ => ⟨S2x8192x8, .i32⟩
  | .hbm, ⟨10, _⟩ => ⟨S_, .f32⟩
  | .local _ .vmem, ⟨0, _⟩ => ⟨S1024x4096, .f32⟩
  | .local _ .vmem, ⟨1, _⟩ => ⟨S1024x4096, .f32⟩
  | .local _ .vmem, ⟨2, _⟩ => ⟨S4096x64, .bf16⟩
  | .local _ .vmem, ⟨3, _⟩ => ⟨S1024x8, .f32⟩
  | .local _ .vmem, ⟨4, _⟩ => ⟨S1024x8, .f32⟩
  | .local _ .vmem, ⟨5, _⟩ => ⟨S1024x8, .i32⟩
  | .local _ .vmem, ⟨6, _⟩ => ⟨S1024x8, .i32⟩
  | .local _ .vmem, ⟨7, _⟩ => ⟨S64x1, .f32⟩
  | .local _ .vmem, ⟨8, _⟩ => ⟨S1x1, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v123 : BitVec 1 := Scalar.cmpi .eq arg0 c0_i32
  let v124 : BitVec 32 := Scalar.extui v123
  let c0_i32_40 : BitVec 32 := 0#32
  let v125 : BitVec 1 := Scalar.cmpi .ne v124 c0_i32_40
  v125

def k0_cond2 (i : grid0.Coords) : BitVec 1 :=
  let arg0 : BitVec 32 := BitVec.ofNat 32 (i 0).val
  let c0_i32_41 : BitVec 32 := 0#32
  let v126 : BitVec 1 := Scalar.cmpi .sgt arg0 c0_i32_41
  let v127 : BitVec 32 := Scalar.extui v126
  let c0_i32_42 : BitVec 32 := 0#32
  let v128 : BitVec 1 := Scalar.cmpi .ne v127 c0_i32_42
  v128

def k0_cond3 (i : grid0.Coords) : BitVec 1 :=
  let arg0 : BitVec 32 := BitVec.ofNat 32 (i 0).val
  let c15_i32 : BitVec 32 := 15#32
  let v129 : BitVec 1 := Scalar.cmpi .eq arg0 c15_i32
  let v130 : BitVec 32 := Scalar.extui v129
  let c0_i32_43 : BitVec 32 := 0#32
  let v131 : BitVec 1 := Scalar.cmpi .ne v130 c0_i32_43
  v131

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S2x8192x4096 : Shape := ⟨3, ![2, 8192, 4096]⟩
abbrev S4096x64 : Shape := ⟨2, ![4096, 64]⟩
abbrev S2x8192x64 : Shape := ⟨3, ![2, 8192, 64]⟩
abbrev S2x8192x8 : Shape := ⟨3, ![2, 8192, 8]⟩
abbrev S_ : Shape := ⟨0, ![]⟩
abbrev S2x8192 : Shape := ⟨2, ![2, 8192]⟩
abbrev S2x8192x1 : Shape := ⟨3, ![2, 8192, 1]⟩
abbrev S64 : Shape := ⟨1, ![64]⟩

abbrev nBuf : Space → Nat
  | .hbm => 47
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x64, .f32⟩
  | .hbm, ⟨2, _⟩ => ⟨S2x8192x64, .f32⟩
  | .hbm, ⟨3, _⟩ => ⟨S2x8192x8, .f32⟩
  | .hbm, ⟨4, _⟩ => ⟨S2x8192x8, .i32⟩
  | .hbm, ⟨5, _⟩ => ⟨S_, .f32⟩
  | .hbm, ⟨6, _⟩ => ⟨S2x8192, .f32⟩
  | .hbm, ⟨7, _⟩ => ⟨S_, .f32⟩
  | .hbm, ⟨8, _⟩ => ⟨S2x8192, .f32⟩
  | .hbm, ⟨9, _⟩ => ⟨S2x8192, .f32⟩
  | .hbm, ⟨10, _⟩ => ⟨S2x8192x1, .f32⟩
  | .hbm, ⟨11, _⟩ => ⟨S2x8192x8, .f32⟩
  | .hbm, ⟨12, _⟩ => ⟨S2x8192x8, .f32⟩
  | .hbm, ⟨13, _⟩ => ⟨S2x8192x8, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S2x8192x8, .f32⟩
  | .hbm, ⟨18, _⟩ => ⟨S2x8192x8, .f32⟩
  | .hbm, ⟨19, _⟩ => ⟨S_, .f32⟩
  | .hbm, ⟨20, _⟩ => ⟨S2x8192, .f32⟩
  | .hbm, ⟨21, _⟩ => ⟨S_, .f32⟩
  | .hbm, ⟨22, _⟩ => ⟨S2x8192, .f32⟩
  | .hbm, ⟨23, _⟩ => ⟨S2x8192, .f32⟩
  | .hbm, ⟨24, _⟩ => ⟨S2x8192x1, .f32⟩
  | .hbm, ⟨25, _⟩ => ⟨S2x8192x64, .f32⟩
  | .hbm, ⟨26, _⟩ => ⟨S2x8192x64, .f32⟩
  | .hbm, ⟨27, _⟩ => ⟨S2x8192x64, .f32⟩
  | .hbm, ⟨28, _⟩ => ⟨S_, .f32⟩
  | .hbm, ⟨29, _⟩ => ⟨S2x8192, .f32⟩
  | .hbm, ⟨30, _⟩ => ⟨S2x8192x1, .f32⟩
  | .hbm, ⟨31, _⟩ => ⟨S2x8192x64, .f32⟩
  | .hbm, ⟨32, _⟩ => ⟨S2x8192x64, .f32⟩
  | .hbm, ⟨33, _⟩ => ⟨S_, .f32⟩
  | .hbm, ⟨34, _⟩ => ⟨S64, .f32⟩
  | .hbm, ⟨35, _⟩ => ⟨S_, .f32⟩
  | .hbm, ⟨36, _⟩ => ⟨S64, .f32⟩
  | .hbm, ⟨37, _⟩ => ⟨S64, .f32⟩
  | .hbm, ⟨38, _⟩ => ⟨S_, .f32⟩
  | .hbm, ⟨39, _⟩ => ⟨S64, .f32⟩
  | .hbm, ⟨40, _⟩ => ⟨S64, .f32⟩
  | .hbm, ⟨41, _⟩ => ⟨S64, .f32⟩
  | .hbm, ⟨42, _⟩ => ⟨S64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Proof.Block.lean ====
/- What one grid point of the kernel computes, as functions of its two input blocks: the eight rounds on the
   transposed logits, the two top-8 blocks, the block's row of summed probabilities, and the loss of a sum. -/
module

public import proofs.«01_k».proof.Proof.Gen.KernelIdeal.Skeleton

@[expose] public section

set_option maxRecDepth 16384

noncomputable section

namespace Cert.Router

open Idealize.ShloMosaic Cert.KernelIdeal Cert.KernelIdeal.Gen

variable {F : FTy → Type} [FloatOps F] [Named F]

/-- The expert number of each entry of a transposed block. -/
def expert : IVec S64x1024 32 := iota .tc S64x1024 32 [0] iota_S64x1024_d0_w32

/-- One round's value: the greatest entry of each token's column. -/
def roundVal (v : FVec F S64x1024 .f32) : FVec F S1x1024 .f32 :=
  shapeCast S1x1024 (multiReduction .maximumf [0] S1024 v 0xFF800000#32 reduces_S64x1024_S1024 (.inl rfl) rfl)
    shapeCasts_S1024_S1x1024

/-- One round's expert: the lowest that holds the greatest entry. -/
def roundIdx (v : FVec F S64x1024 .f32) : IVec S1x1024 32 :=
  shapeCast S1x1024 (multiReductionI .minsi [0] S1024
    (select (cmpf .oeq v (broadcastTo S64x1024 (roundVal v) broadcasts_S1x1024_S64x1024)) expert (broadcast S64x1024 64#32))
    2147483647#32 reduces_S64x1024_S1024 rfl) shapeCasts_S1024_S1x1024

/-- What one round leaves: the column with the chosen entry masked. -/
def roundMask (v : FVec F S64x1024 .f32) : FVec F S64x1024 .f32 :=
  select (cmpi .eq expert (broadcastTo S64x1024 (roundIdx v) broadcasts_S1x1024_S64x1024))
    (broadcast S64x1024 (Named.named κ "mask" 0xF149F2CA#32 : F .f32)) v

/-- The transposed logits of a block of tokens after `r` rounds. -/
def left (x : Vec F S1024x4096 .f32) (w : Vec F S4096x64 .bf16) : ℕ → FVec F S64x1024 .f32
  | 0 => k0_pay3 x w
  | r + 1 => roundMask (left x w r)

/-- The eight greatest logits of each token of the block. -/
def topVals (x : Vec F S1024x4096 .f32) (w : Vec F S4096x64 .bf16) : FVec F S8x1024 .f32 :=
  concatenate S8x1024 0 [⟨S1x1024, roundVal (left x w 0)⟩, ⟨S1x1024, roundVal (left x w 1)⟩, ⟨S1x1024, roundVal (left x w 2)⟩,
    ⟨S1x1024, roundVal (left x w 3)⟩, ⟨S1x1024, roundVal (left x w 4)⟩, ⟨S1x1024, roundVal (left x w 5)⟩,
    ⟨S1x1024, roundVal (left x w 6)⟩, ⟨S1x1024, roundVal (left x w 7)⟩]
    concatenates_S1x1024_S1x1024_S1x1024_S1x1024_S1x1024_S1x1024_S1x1024_S1x1024_S8x1024_d0

/-- The experts of the eight greatest logits of each token of the block. -/
def topIdxs (x : Vec F S1024x4096 .f32) (w : Vec F S4096x64 .bf16) : IVec S8x1024 32 :=
  concatenate S8x1024 0 [⟨S1x1024, roundIdx (left x w 0)⟩, ⟨S1x1024, roundIdx (left x w 1)⟩, ⟨S1x1024, roundIdx (left x w 2)⟩,
    ⟨S1x1024, roundIdx (left x w 3)⟩, ⟨S1x1024, roundIdx (left x w 4)⟩, ⟨S1x1024, roundIdx (left x w 5)⟩,
    ⟨S1x1024, roundIdx (left x w 6)⟩, ⟨S1x1024, roundIdx (left x w 7)⟩]
    concatenates_S1x1024_S1x1024_S1x1024_S1x1024_S1x1024_S1x1024_S1x1024_S1x1024_S8x1024_d0

/-- A stack of eight rows of logits less its first row. -/
def centred (v : FVec F S8x1024 .f32) : FVec F S8x1024 .f32 :=
  subf v (broadcastTo S8x1024 (extractStridedSlice S1x1024 ![0, 0] v slices_S8x1024_o0_0_S1x1024) broadcasts_S1x1024_S8x1024)

/-- The block of top-8 probabilities. -/
def probsBlock (x : Vec F S1024x4096 .f32) (w : Vec F S4096x64 .bf16) : FVec F S1024x8 .f32 :=
  transpose S1024x8 [1, 0]
    (divf (exp (centred (topVals x w)))
      (broadcastTo S8x1024
        (shapeCast S1x1024 (multiReduction .add [0] S1024 (exp (centred (topVals x w))) 0x00000000#32 reduces_S8x1024_S1024
          (.inl rfl) rfl) shapeCasts_S1024_S1x1024) broadcasts_S1x1024_S8x1024))
    transposes_S8x1024_p1_0_S1024x8

/-- The block of top-8 experts. -/
def idxBlock (x : Vec F S1024x4096 .f32) (w : Vec F S4096x64 .bf16) : IVec S1024x8 32 :=
  transpose S1024x8 [1, 0] (topIdxs x w) transposes_S8x1024_p1_0_S1024x8

/-- The exponentials of the block's transposed logits less each token's greatest. -/
def expAll (x : Vec F S1024x4096 .f32) (w : Vec F S4096x64 .bf16) : FVec F S64x1024 .f32 :=
  exp (subf (k0_pay3 x w) (broadcastTo S64x1024
    (extractStridedSlice S1x1024 ![0, 0] (topVals x w) slices_S8x1024_o0_0_S1x1024) broadcasts_S1x1024_S64x1024))

/-- The block's probabilities over all experts, summed over its tokens. -/
def sumBlock (x : Vec F S1024x4096 .f32) (w : Vec F S4096x64 .bf16) : FVec F S64x1 .f32 :=
  shapeCast S64x1 (multiReduction .add [1] S64
    (divf (expAll x w) (broadcastTo S64x1024
      (shapeCast S1x1024 (multiReduction .add [0] S1024 (expAll x w) 0x00000000#32 reduces_S64x1024_S1024 (.inl rfl) rfl)
        shapeCasts_S1024_S1x1024) broadcasts_S1x1024_S64x1024))
    0x00000000#32 reduces_S64x1024_S64 (.inl rfl) rfl) shapeCasts_S64_S64x1

/-! ## The printed values are these -/

section Printed
variable (x : Vec F S1024x4096 .f32) (w : Vec F S4096x64 .bf16)

/-- The body's column entering round 2. -/
theorem pay9_eq : k0_pay9 x w = left x w 2 := rfl

/-- The body's column entering round 3. -/
theorem pay14_eq : k0_pay14 (k0_pay9 x w) (k0_pay12 x w) (k0_pay13 (F := F)) = left x w 3 := rfl

/-- The body's column entering round 6. -/
theorem pay23_eq : k0_pay23 expert (k0_pay9 x w) (k0_pay12 x w) (k0_pay13 (F := F)) = left x w 6 := rfl

/-- The body's stack of eight values. -/
theorem pay28_eq : k0_pay28 expert (k0_pay4 x w) (k0_pay7 x w) (k0_pay10 x w)
    (k0_pay15 (k0_pay9 x w) (k0_pay12 x w) k0_pay13) (k0_pay18 expert (k0_pay9 x w) (k0_pay12 x w) k0_pay13)
    (k0_pay21 expert (k0_pay9 x w) (k0_pay12 x w) k0_pay13) (k0_pay23 expert (k0_pay9 x w) (k0_pay12 x w) k0_pay13)
    (k0_pay24 expert (k0_pay9 x w) (k0_pay12 x w) k0_pay13) (k0_pay25 expert (k0_pay9 x w) (k0_pay12 x w) k0_pay13)
    = topVals x w := rfl

/-- The body's first store. -/
theorem pay29_eq : k0_pay29 expert (k0_pay4 x w) (k0_pay7 x w) (k0_pay10 x w)
    (k0_pay15 (k0_pay9 x w) (k0_pay12 x w) k0_pay13) (k0_pay18 expert (k0_pay9 x w) (k0_pay12 x w) k0_pay13)
    (k0_pay21 expert (k0_pay9 x w) (k0_pay12 x w) k0_pay13) (k0_pay23 expert (k0_pay9 x w) (k0_pay12 x w) k0_pay13)
    (k0_pay24 expert (k0_pay9 x w) (k0_pay12 x w) k0_pay13) (k0_pay25 expert (k0_pay9 x w) (k0_pay12 x w) k0_pay13)
    = probsBlock x w := by
  unfold k0_pay29
  rw [pay28_eq]
  rfl

/-- The body's second store. -/
theorem pay30_eq : k0_pay30 expert (k0_pay5 x w) (k0_pay8 x w) (k0_pay11 x w)
    (k0_pay16 expert (k0_pay9 x w) (k0_pay12 x w) k0_pay13) (k0_pay19 expert (k0_pay9 x w) (k0_pay12 x w) k0_pay13)
    (k0_pay22 expert (k0_pay9 x w) (k0_pay12 x w) k0_pay13) (k0_pay23 expert (k0_pay9 x w) (k0_pay12 x w) k0_pay13)
    (k0_pay25 expert (k0_pay9 x w) (k0_pay12 x w) k0_pay13)
    = idxBlock x w := rfl

/-- The block's sum, which the body stores or adds. -/
theorem pay31_eq : k0_pay31 (k0_pay3 x w) expert (k0_pay4 x w) (k0_pay7 x w) (k0_pay10 x w)
    (k0_pay15 (k0_pay9 x w) (k0_pay12 x w) k0_pay13) (k0_pay18 expert (k0_pay9 x w) (k0_pay12 x w) k0_pay13)
    (k0_pay21 expert (k0_pay9 x w) (k0_pay12 x w) k0_pay13) (k0_pay23 expert (k0_pay9 x w) (k0_pay12 x w) k0_pay13)
    (k0_pay24 expert (k0_pay9 x w) (k0_pay12 x w) k0_pay13) (k0_pay25 expert (k0_pay9 x w) (k0_pay12 x w) k0_pay13)
    = sumBlock x w := by
  unfold k0_pay31
  rw [pay28_eq]
  rfl

end Printed

end Cert.Router

end
-- ==== Proof.Cases.lean ====
/- What the body leaves in each output window at a grid point of each case, in the words of `Block.lean`. -/
module

public import proofs.«01_k».proof.Proof.Gen.KernelIdeal.Frame
public import Idealize.ShloMosaic.Lib.Pipeline.Value
public import proofs.«01_k».proof.Proof.Block

@[expose] public section

set_option maxRecDepth 16384

noncomputable section

namespace Cert.Router

open Idealize.ShloMosaic Cert.KernelIdeal Cert.KernelIdeal.Gen

/-- The corner of a window's own rectangle. -/
theorem corner : (![0, 0] : Fin 2 → Nat) = fun _ => 0 := funext fun a => by fin_cases a <;> rfl

variable {F : FTy → Type} [FloatOps F] [Named F] (c : Dev nD) (i : grid0.Coords)
  (a1 : Memref sig .tc .vmem S1024x4096 .f32) (h1 : a1.IsWhole) (a2 : Memref sig .tc .vmem S4096x64 .bf16) (h2 : a2.IsWhole)
  (a3 : Memref sig .tc .vmem S1024x8 .f32) (h3 : a3.IsWhole) (a4 : Memref sig .tc .vmem S1024x8 .i32) (h4 : a4.IsWhole)
  (a5 : Memref sig .tc .vmem S64x1 .f32) (h5 : a5.IsWhole) (a6 : Memref sig .tc .vmem S1x1 .f32) (h6 : a6.IsWhole)

section CaseA
variable (hc0 : cond0_0 i) (hc1 : ¬cond0_1 i) (hc2 : ¬cond0_2 i) (x : Vec F S1024x4096 .f32) (w : Vec F S4096x64 .bf16)

/-- At the first point the probabilities' window holds the block's top-8 probabilities. -/
theorem outA2 : out0_A_2 c i a1 h1 a2 h2 a3 h3 a4 h4 a5 h5 a6 h6 hc0 hc1 hc2 x w = probsBlock x w := by
  unfold out0_A_2
  rw [View.read_writes_eq_canon _ _ _ (cover0_A_2 c i a1 h1 a2 h2 a3 h3 a4 h4 a5 h5 a6 h6 hc0 hc1 hc2 x w)]
  unfold kernelRun0_A
  dsimp only
  sl_unfold_words
  rw [View.canon_unit_zero corner]
  simp only [View.readAt_eq_ld, h1.read_unread, h2.read_unread, h5.read_unread, View.ld_unit_zero (S := S1024x4096) corner,
    View.ld_unit_zero (S := S4096x64) corner, View.ld_unit_zero (S := S64x1) corner, View.readCov_unit_zero (S := S64x1) _ corner]
  exact pay29_eq x w

/-- At the first point the experts' window holds the block's top-8 experts. -/
theorem outA3 : out0_A_3 c i a1 h1 a2 h2 a3 h3 a4 h4 a5 h5 a6 h6 hc0 hc1 hc2 x w = idxBlock x w := by
  unfold out0_A_3
  rw [View.read_writes_eq_canon _ _ _ (cover0_A_3 c i a1 h1 a2 h2 a3 h3 a4 h4 a5 h5 a6 h6 hc0 hc1 hc2 x w)]
  unfold kernelRun0_A
  dsimp only
  sl_unfold_words
  rw [View.canon_unit_zero corner]
  simp only [View.readAt_eq_ld, h1.read_unread, h2.read_unread, h5.read_unread, View.ld_unit_zero (S := S1024x4096) corner,
    View.ld_unit_zero (S := S4096x64) corner, View.ld_unit_zero (S := S64x1) corner, View.readCov_unit_zero (S := S64x1) _ corner]
  exact pay30_eq x w

/-- At the first point the sums' window holds the block's sum. -/
theorem outA4 : out0_A_4 c i a1 h1 a2 h2 a3 h3 a4 h4 a5 h5 a6 h6 hc0 hc1 hc2 x w = sumBlock x w := by
  unfold out0_A_4
  rw [View.read_writes_eq_canon _ _ _ (cover0_A_4 c i a1 h1 a2 h2 a3 h3 a4 h4 a5 h5 a6 h6 hc0 hc1 hc2 x w)]
  unfold kernelRun0_A
  dsimp only
  sl_unfold_words
  rw [View.canon_unit_zero corner]
  simp only [View.readAt_eq_ld, h1.read_unread, h2.read_unread, h5.read_unread, View.ld_unit_zero (S := S1024x4096) corner,
    View.ld_unit_zero (S := S4096x64) corner, View.ld_unit_zero (S := S64x1) corner, View.readCov_unit_zero (S := S64x1) _ corner]
  exact pay31_eq x w

end CaseA

section CaseB
variable (hc0 : ¬cond0_0 i) (hc1 : cond0_1 i) (hc2 : ¬cond0_2 i) (x : Vec F S1024x4096 .f32) (w : Vec F S4096x64 .bf16) (acc : Vec F S64x1 .f32)

/-- At a middle point the probabilities' window holds the block's top-8 probabilities. -/
theorem outB2 : out0_B_2 c i a1 h1 a2 h2 a3 h3 a4 h4 a5 h5 a6 h6 hc0 hc1 hc2 x w acc = probsBlock x w := by
  unfold out0_B_2
  rw [View.read_writes_eq_canon _ _ _ (cover0_B_2 c i a1 h1 a2 h2 a3 h3 a4 h4 a5 h5 a6 h6 hc0 hc1 hc2 x w acc)]
  unfold kernelRun0_B
  dsimp only
  sl_unfold_words
  rw [View.canon_unit_zero corner]
  simp only [View.readAt_eq_ld, h1.read_unread, h2.read_unread, h5.read_unread, View.ld_unit_zero (S := S1024x4096) corner,
    View.ld_unit_zero (S := S4096x64) corner, View.ld_unit_zero (S := S64x1) corner, View.readCov_unit_zero (S := S64x1) _ corner]
  exact pay29_eq x w

/-- At a middle point the experts' window holds the block's top-8 experts. -/
theorem outB3 : out0_B_3 c i a1 h1 a2 h2 a3 h3 a4 h4 a5 h5 a6 h6 hc0 hc1 hc2 x w acc = idxBlock x w := by
  unfold out0_B_3
  rw [View.read_writes_eq_canon _ _ _ (cover0_B_3 c i a1 h1 a2 h2 a3 h3 a4 h4 a5 h5 a6 h6 hc0 hc1 hc2 x w acc)]
  unfold kernelRun0_B
  dsimp only
  sl_unfold_words
  rw [View.canon_unit_zero corner]
  simp only [View.readAt_eq_ld, h1.read_unread, h2.read_unread, h5.read_unread, View.ld_unit_zero (S := S1024x4096) corner,
    View.ld_unit_zero (S := S4096x64) corner, View.ld_unit_zero (S := S64x1) corner, View.readCov_unit_zero (S := S64x1) _ corner]
  exact pay30_eq x w

/-- At a middle point the sums' window holds the sum it held and the block's. -/
theorem outB4 : out0_B_4 c i a1 h1 a2 h2 a3 h3 a4 h4 a5 h5 a6 h6 hc0 hc1 hc2 x w acc = k0_pay1 (sumBlock x w) acc := by
  unfold out0_B_4
  rw [View.read_writes_eq_canon _ _ _ (cover0_B_4 c i a1 h1 a2 h2 a3 h3 a4 h4 a5 h5 a6 h6 hc0 hc1 hc2 x w acc)]
  unfold kernelRun0_B
  dsimp only
  sl_unfold_words
  rw [View.canon_unit_zero corner]
  simp only [View.readAt_eq_ld, h1.read_unread, h2.read_unread, h5.read_unread, View.ld_unit_zero (S := S1024x4096) corner,
    View.ld_unit_zero (S := S4096x64) corner, View.ld_unit_zero (S := S64x1) corner, View.readCov_unit_zero (S := S64x1) _ corner]
  exact congrArg (k0_pay1 · acc) (pay31_eq x w)

end CaseB

section CaseC
variable (hc0 : ¬cond0_0 i) (hc1 : cond0_1 i) (hc2 : cond0_2 i) (x : Vec F S1024x4096 .f32) (w : Vec F S4096x64 .bf16) (acc : Vec F S64x1 .f32)

/-- At the last point the probabilities' window holds the block's top-8 probabilities. -/
theorem outC2 : out0_C_2 c i a1 h1 a2 h2 a3 h3 a4 h4 a5 h5 a6 h6 hc0 hc1 hc2 x w acc = probsBlock x w := by
  unfold out0_C_2
  rw [View.read_writes_eq_canon _ _ _ (cover0_C_2 c i a1 h1 a2 h2 a3 h3 a4 h4 a5 h5 a6 h6 hc0 hc1 hc2 x w acc)]
  unfold kernelRun0_C
  dsimp only
  sl_unfold_words
  rw [View.canon_unit_zero corner]
  simp only [View.readAt_eq_ld, h1.read_unread, h2.read_unread, h5.read_unread, View.ld_unit_zero (S := S1024x4096) corner,
    View.ld_unit_zero (S := S4096x64) corner, View.ld_unit_zero (S := S64x1) corner, View.readCov_unit_zero (S := S64x1) _ corner]
  exact pay29_eq x w

/-- At the last point the experts' window holds the block's top-8 experts. -/
theorem outC3 : out0_C_3 c i a1 h1 a2 h2 a3 h3 a4 h4 a5 h5 a6 h6 hc0 hc1 hc2 x w acc = idxBlock x w := by
  unfold out0_C_3
  rw [View.read_writes_eq_canon _ _ _ (cover0_C_3 c i a1 h1 a2 h2 a3 h3 a4 h4 a5 h5 a6 h6 hc0 hc1 hc2 x w acc)]
  unfold kernelRun0_C
  dsimp only
  sl_unfold_words
  rw [View.canon_unit_zero corner]
  simp only [View.readAt_eq_ld, h1.read_unread, h2.read_unread, h5.read_unread, View.ld_unit_zero (S := S1024x4096) corner,
    View.ld_unit_zero (S := S4096x64) corner, View.ld_unit_zero (S := S64x1) corner, View.readCov_unit_zero (S := S64x1) _ corner]
  exact pay30_eq x w

/-- At the last point the sums' window holds the sum it held and the block's. -/
theorem outC4 : out0_C_4 c i a1 h1 a2 h2 a3 h3 a4 h4 a5 h5 a6 h6 hc0 hc1 hc2 x w acc = k0_pay1 (sumBlock x w) acc := by
  unfold out0_C_4
  rw [View.read_writes_eq_canon _ _ _ (cover0_C_4 c i a1 h1 a2 h2 a3 h3 a4 h4 a5 h5 a6 h6 hc0 hc1 hc2 x w acc)]
  unfold kernelRun0_C
  dsimp only
  sl_unfold_words
  rw [View.canon_unit_zero corner]
  simp only [View.readAt_eq_ld, h1.read_unread, h2.read_unread, h5.read_unread, View.ld_unit_zero (S := S1024x4096) corner,
    View.ld_unit_zero (S := S4096x64) corner, View.ld_unit_zero (S := S64x1) corner, View.readCov_unit_zero (S := S64x1) _ corner]
  exact congrArg (k0_pay1 · acc) (pay31_eq x w)

/-- At the last point the loss's window holds the loss of the whole sum. -/
theorem outC5 : out0_C_5 c i a1 h1 a2 h2 a3 h3 a4 h4 a5 h5 a6 h6 hc0 hc1 hc2 x w acc = k0_pay2 (k0_pay1 (sumBlock x w) acc) := by
  unfold out0_C_5
  rw [View.read_writes_eq_canon _ _ _ (cover0_C_5 c i a1 h1 a2 h2 a3 h3 a4 h4 a5 h5 a6 h6 hc0 hc1 hc2 x w acc)]
  unfold kernelRun0_C
  dsimp only
  sl_unfold_words
  rw [View.canon_unit_zero corner]
  simp only [View.readAt_eq_ld, h1.read_unread, h2.read_unread, h5.read_unread, View.ld_unit_zero (S := S1024x4096) corner,
    View.ld_unit_zero (S := S4096x64) corner, View.ld_unit_zero (S := S64x1) corner, View.readCov_unit_zero (S := S64x1) _ corner]
  exact congrArg (fun s => k0_pay2 (k0_pay1 s acc)) (pay31_eq x w)

end CaseC

end Cert.Router

end
-- ==== Proof.Points.lean ====
/- What the staging buffers hold after each grid point, at every float instance. -/
module

public import proofs.«01_k».proof.Proof.Cases

@[expose] public section

set_option maxRecDepth 16384

noncomputable section

namespace Cert.Router

open Idealize.ShloMosaic Cert.KernelIdeal Cert.KernelIdeal.Gen

variable {F : FTy → Type} [FloatOps F] [Named F]
variable (m : (ℓ : Loc nD τ sig) → Buf (Elt F) ℓ)

/-- The block of tokens the kernel holds at a grid point. -/
abbrev tokens (c : Dev nD) (t : Fin cfg0.N) : Vec F S1024x4096 .f32 := iblk m c 0 t

/-- The weights the kernel holds at a grid point. -/
abbrev weights (c : Dev nD) (t : Fin cfg0.N) : Vec F S4096x64 .bf16 := iblk m c 1 t

/-- The running sum of the probabilities of every expert, after grid point `n`. -/
def sums (c : Dev nD) : (n : ℕ) → n < cfg0.N → Vec F S64x1 .f32
  | 0, h => sumBlock (tokens m c ⟨0, h⟩) (weights m c ⟨0, h⟩)
  | n + 1, h => k0_pay1 (sumBlock (tokens m c ⟨n + 1, h⟩) (weights m c ⟨n + 1, h⟩)) (sums c n (Nat.lt_of_succ_lt h))

/-- A grid point is the first, a middle one or the last. -/
theorem point_cases (t : Fin cfg0.N) : (t.val % 16 = 0 ∧ ¬1 ≤ t.val ∧ ¬t.val % 16 = 15)
    ∨ (¬t.val % 16 = 0 ∧ 1 ≤ t.val ∧ ¬t.val % 16 = 15) ∨ (¬t.val % 16 = 0 ∧ 1 ≤ t.val ∧ t.val % 16 = 15) := by
  have hN : cfg0.N = 16 := N_0
  have := t.isLt
  omega

/-- After every point the probabilities' buffer holds the point's block of probabilities. -/
theorem outs_probs (c : Dev nD) (t : Fin cfg0.N) :
    (outsAt0 m c t.val t.isLt).1 = probsBlock (tokens m c t) (weights m c t) := by
  rcases point_cases t with ⟨h0, h1, h2⟩ | ⟨h0, h1, h2⟩ | ⟨h0, h1, h2⟩
  · rw [outsAt0_A m c t h0 h1 h2]; dsimp only; rw [outA2]
  · rw [outsAt0_B m c t h0 h1 h2]; dsimp only; rw [outB2]
  · rw [outsAt0_C m c t h0 h1 h2]; dsimp only; rw [outC2]

/-- After every point the experts' buffer holds the point's block of experts. -/
theorem outs_idx (c : Dev nD) (t : Fin cfg0.N) :
    (outsAt0 m c t.val t.isLt).2.1 = idxBlock (tokens m c t) (weights m c t) := by
  rcases point_cases t with ⟨h0, h1, h2⟩ | ⟨h0, h1, h2⟩ | ⟨h0, h1, h2⟩
  · rw [outsAt0_A m c t h0 h1 h2]; dsimp only; rw [outA3]
  · rw [outsAt0_B m c t h0 h1 h2]; dsimp only; rw [outB3]
  · rw [outsAt0_C m c t h0 h1 h2]; dsimp only; rw [outC3]

/-- After every point the sums' buffer holds the running sum. -/
theorem outs_sums (c : Dev nD) : ∀ (n : ℕ) (h : n < cfg0.N), (outsAt0 m c n h).2.2.1 = sums m c n h
  | 0, h => by
    rw [outsAt0_A m c ⟨0, h⟩ rfl (by simp) (by simp)]; dsimp only; rw [outA4]; rfl
  | n + 1, h => by
    rcases point_cases ⟨n + 1, h⟩ with ⟨_, h1, _⟩ | ⟨h0, h1, h2⟩ | ⟨h0, h1, h2⟩
    · exact absurd (Nat.le_add_left 1 n) h1
    · rw [outsAt0_B m c ⟨n + 1, h⟩ h0 h1 h2]
      dsimp only
      rw [outB4]
      show k0_pay1 _ (outsAt0 m c n _).2.2.1 = k0_pay1 _ (sums m c n _)
      rw [outs_sums c n]
    · rw [outsAt0_C m c ⟨n + 1, h⟩ h0 h1 h2]
      dsimp only
      rw [outC4]
      show k0_pay1 _ (outsAt0 m c n _).2.2.1 = k0_pay1 _ (sums m c n _)
      rw [outs_sums c n]

/-- After the last point the loss's buffer holds the loss of the whole sum. -/
theorem outs_loss (c : Dev nD) (t : Fin cfg0.N) (ht : t.val = 15) :
    (outsAt0 m c t.val t.isLt).2.2.2 = k0_pay2 (sums m c t.val t.isLt) := by
  obtain ⟨n, h⟩ := t
  obtain rfl : n = 14 + 1 := ht
  rw [outsAt0_C m c ⟨14 + 1, h⟩ (by simp) (by simp) (by simp)]
  dsimp only
  rw [outC5]
  show k0_pay2 (k0_pay1 _ (outsAt0 m c 14 _).2.2.1) = k0_pay2 (k0_pay1 _ (sums m c 14 _))
  rw [outs_sums m c 14]

end Cert.Router

end
-- ==== Proof.Row.lean ====
/- One row of router logits, one per expert, and the repeated choice of its greatest entry: the values and
   positions that eight rounds of "take the greatest, lowest position first, and mask it" choose are the
   first entries of the row's stable sort, greatest first. -/
module

public import Idealize.ShloMosaic.Lib.SortPrefix
public import Idealize.ShloMosaic.PureOps.Ideal

@[expose] public section

noncomputable section

namespace Cert.Router

open Idealize.ShloMosaic

/-- One token's logits, one for each of the 64 experts. -/
abbrev Row := Fin 64 → EReal

/-- The greatest entry of a row. -/
def top (w : Row) : EReal := Finset.univ.fold max ⊥ w

/-- No entry is above the greatest. -/
theorem le_top (w : Row) (e : Fin 64) : w e ≤ top w :=
  (Finset.le_fold_max _).mpr (Or.inr ⟨e, Finset.mem_univ e, le_rfl⟩)

/-- The greatest entry is an entry. -/
theorem exists_eq_top (w : Row) : ∃ e, w e = top w := by
  rcases (Finset.le_fold_max (b := ⊥) (f := w) (s := Finset.univ) (top w)).mp le_rfl with h | ⟨e, _, h⟩
  · exact ⟨0, le_antisymm (le_top w 0) (h.trans bot_le)⟩
  · exact ⟨e, le_antisymm (le_top w e) h⟩

theorem top_nonempty (w : Row) : (Finset.univ.filter fun e => w e = top w).Nonempty := by
  obtain ⟨e, he⟩ := exists_eq_top w
  exact ⟨e, by simpa using he⟩

/-- The lowest position of the greatest entry. -/
def pick (w : Row) : Fin 64 := (Finset.univ.filter fun e => w e = top w).min' (top_nonempty w)

/-- The chosen entry is the greatest. -/
theorem apply_pick (w : Row) : w (pick w) = top w := by
  have h := (Finset.univ.filter fun e => w e = top w).min'_mem (top_nonempty w)
  exact (Finset.mem_filter.mp h).2

/-- No lower position holds the greatest entry. -/
theorem pick_le (w : Row) (e : Fin 64) (h : w e = top w) : pick w ≤ e :=
  Finset.min'_le _ _ (by simpa using h)

/-- The row with the chosen entry taken out. -/
def mask (w : Row) : Row := fun e => if e = pick w then ⊥ else w e

/-- The row after `r` rounds. -/
def work (l : Row) : ℕ → Row
  | 0 => l
  | r + 1 => mask (work l r)

/-- The value that round `r` chooses. -/
def val (l : Row) (r : ℕ) : EReal := top (work l r)

/-- The expert that round `r` chooses. -/
def sel (l : Row) (r : ℕ) : Fin 64 := pick (work l r)

/-- After `r` rounds an entry is masked when one of the rounds chose it, and otherwise as it was. -/
theorem work_apply (l : Row) (r : ℕ) (e : Fin 64) :
    work l r e = if ∃ b < r, sel l b = e then ⊥ else l e := by
  induction r with
  | zero => simp [work]
  | succ r ih =>
    show (if e = pick (work l r) then ⊥ else work l r e) = _
    by_cases h : e = pick (work l r)
    · rw [if_pos h, if_pos ⟨r, Nat.lt_succ_self r, h.symm⟩]
    · rw [if_neg h, ih]
      refine if_congr ?_ rfl rfl
      constructor
      · rintro ⟨b, hb, he⟩; exact ⟨b, Nat.lt_succ_of_lt hb, he⟩
      · rintro ⟨b, hb, he⟩
        rcases Nat.lt_succ_iff_lt_or_eq.mp hb with hb | rfl
        · exact ⟨b, hb, he⟩
        · exact absurd he.symm h

section Finite

variable {l : Row} (hl : ∀ e, ⊥ < l e)
include hl

/-- Fewer than 64 rounds leave an entry, so the greatest one left is above −∞. -/
theorem bot_lt_val {r : ℕ} (hr : r < 64) : ⊥ < val l r := by
  obtain ⟨e, he⟩ : ∃ e : Fin 64, ∀ b < r, sel l b ≠ e := by
    by_contra hcon
    push Not at hcon
    have hsub : (Finset.univ : Finset (Fin 64)) ⊆ (Finset.range r).image (sel l) := fun e _ => by
      obtain ⟨b, hb, hbe⟩ := hcon e
      exact Finset.mem_image.mpr ⟨b, Finset.mem_range.mpr hb, hbe⟩
    have := (Finset.card_le_card hsub).trans Finset.card_image_le
    simp at this
    omega
  have h := le_top (work l r) e
  rw [work_apply, if_neg (fun ⟨b, hb, hbe⟩ => he b hb hbe)] at h
  exact lt_of_lt_of_le (hl e) h

/-- Round `r` chooses an expert that no round before it chose. -/
theorem sel_ne {b r : ℕ} (hb : b < r) (hr : r < 64) : sel l b ≠ sel l r := fun h => by
  have h1 := apply_pick (work l r)
  rw [work_apply, if_pos ⟨b, hb, h⟩] at h1
  exact absurd h1 (bot_lt_val hl hr).ne

/-- The value that round `r` chooses is the row's entry at the expert it chooses. -/
theorem val_eq {r : ℕ} (hr : r < 64) : val l r = l (sel l r) := by
  have h1 := apply_pick (work l r)
  rw [work_apply, if_neg (fun ⟨b, hb, h⟩ => sel_ne hl hb hr h)] at h1
  exact h1.symm

/-- An entry that no earlier round chose is at most the one round `r` chooses, and is at a higher position if equal. -/
theorem sel_first {r : ℕ} (hr : r < 64) (p : Fin 64) (hp : ∀ b < r, sel l b ≠ p) :
    l p ≤ l (sel l r) ∧ (l p = l (sel l r) → sel l r ≤ p) := by
  have hw : work l r p = l p := by rw [work_apply, if_neg (fun ⟨b, hb, h⟩ => hp b hb h)]
  have hv := val_eq hl hr
  refine ⟨?_, fun h => pick_le _ _ ?_⟩
  · rw [← hv, ← hw]; exact le_top _ p
  · rw [hw, h, ← hv]; rfl

end Finite

/-! ## The stable sort -/

/-- "Sorts strictly before": greater, or equal and at a lower position. -/
def before (l : Row) (k k' : Fin 64) : Bool := decide (l k' < l k) || (decide (l k = l k') && decide (k < k'))

theorem before_strict (l : Row) : StrictTotalBefore (before l) :=
  StrictTotalBefore.of_key_then_position (fun a b : EReal => decide (b < a)) l (by simp)
    (fun a b c h h' => by simp only [decide_eq_true_eq] at *; exact h'.trans h)
    (fun a b => by simp only [decide_eq_true_eq]; exact (lt_trichotomy b a).imp id (Or.imp Eq.symm id))

/-- The stable sort of increasing positions by the value alone is the sort by value and then position. -/
theorem stableSort_eq (l : Row) (L : List (Fin 64)) (hL : L.Pairwise (· < ·)) :
    stableSort (fun k k' => decide (l k' < l k)) L = stableSort (before l) L := by
  induction L with
  | nil => rfl
  | cons a L ih =>
    obtain ⟨ha, hL⟩ := List.pairwise_cons.mp hL
    unfold stableSort
    rw [ih hL]
    refine insertBefore_congr _ _ a _ fun b hb => ?_
    have hab : a < b := ha b ((perm_stableSort (before l) L).mem_iff.mp hb)
    simp [before, not_lt.mpr hab.le]

/-- Two relations that sort the positions into one list put the same position at each place. -/
theorem sortedFrom_of_positions {n : ℕ} {R R' : Fin n → Fin n → Bool} (h : sortPositions n R = sortPositions n R')
    (k : Fin n) : sortedFrom R k = sortedFrom R' k := by
  unfold sortedFrom
  simp only [List.get_eq_getElem, Fin.val_cast]
  exact List.getElem_of_eq h _

/-- The first 8 positions of the stable sort, greatest first, are what the 8 rounds choose. -/
theorem sortedFrom_eq_sel {l : Row} (hl : ∀ e, ⊥ < l e) (i : Fin 8) :
    sortedFrom (fun k k' => decide (l k' < l k)) (i.castLE (by decide)) = sel l i := by
  have hpos : sortPositions 64 (fun k k' => decide (l k' < l k)) = sortPositions 64 (before l) :=
    stableSort_eq l _ (List.pairwise_lt_finRange 64)
  have hneg : ∀ (i : Fin 8) (p : Fin 64), (∀ b < i.val, sel l b ≠ p) → before l p (sel l i) = false := by
    intro i p hp
    obtain ⟨h1, h2⟩ := sel_first hl (r := i.val) (by omega) p hp
    simp only [before, Bool.or_eq_false_iff, Bool.and_eq_false_iff, decide_eq_false_iff_not, not_lt]
    refine ⟨h1, ?_⟩
    by_cases h : l p = l (sel l i)
    · exact Or.inr (h2 h)
    · exact Or.inl h
  rw [sortedFrom_of_positions hpos]
  refine (before_strict l).sortedFrom_eq_of_prefix (by decide) (fun i : Fin 8 => sel l i.val) ?_ ?_ ?_ i
  · intro a b hab
    rcases lt_trichotomy a.val b.val with h | h | h
    · exact absurd hab (sel_ne hl h (by omega))
    · exact Fin.ext h
    · exact absurd hab.symm (sel_ne hl h (by omega))
  · exact fun i j hij => hneg i _ fun b hb h => sel_ne hl (hb.trans hij) (by omega) h
  · exact fun i p hp => hneg i p fun b hb h => hp ⟨b, by omega⟩ h

end Cert.Router

end
-- ==== Proof.Softmax.lean ====
/- The two softmaxes of a row of logits, and the loss of the experts' summed probabilities, in extended reals. -/
module

public import Idealize.ShloMosaic.Lib.Pointwise
public import proofs.«01_k».proof.Proof.Row

@[expose] public section

noncomputable section

namespace Cert.Router

open Idealize.ShloMosaic

/-- The softmax of the eight greatest logits of a row, at the `r`-th. -/
def topProb (l : Row) (r : Fin 8) : EReal :=
  Ideal.div (Ideal.exp (val l r - val l 0)) (∑ k : Fin 8, Ideal.exp (val l k - val l 0))

/-- The softmax of a whole row, at an expert. -/
def prob (l : Row) (e : Fin 64) : EReal :=
  Ideal.div (Ideal.exp (l e - top l)) (∑ k : Fin 64, Ideal.exp (l k - top l))

/-- The loss of the experts' mean probabilities. -/
def loss (mean : Row) : EReal :=
  Ideal.ofBits .f32 0x3C23D70A#32 * ∑ e : Fin 64, mean e * Ideal.log (mean e + Ideal.ofBits .f32 0x322BCC77#32)

/-- The bits `0xFF800000` are `-∞`. -/
theorem neg_inf : Ideal.ofBits FTy.f32 0xFF800000#32 = (⊥ : EReal) := by
  simp [Ideal.ofBits, Ideal.ieee]

/-- No round's value exceeds the first's. -/
theorem val_le {l : Row} (hl : ∀ e, ⊥ < l e) (r : Fin 8) : val l r ≤ val l 0 := by
  rw [val_eq hl (lt_of_lt_of_le r.isLt (by decide))]
  exact le_top l _

/-- The greatest of the eight values is the first. -/
theorem fold_val {l : Row} (hl : ∀ e, ⊥ < l e) :
    Finset.fold max ⊥ (fun k : Fin 8 => val l k) Finset.univ = val l 0 :=
  le_antisymm (Finset.fold_max_le _ |>.mpr ⟨bot_le, fun k _ => val_le hl k⟩)
    (Finset.le_fold_max _ |>.mpr (.inr ⟨0, Finset.mem_univ _, le_rfl⟩))

end Cert.Router

end
-- ==== Proof.Round.lean ====
/- One round of the kernel read at a token: the greatest entry of its column, the lowest expert holding it, and the
   column left behind. -/
module

public import Idealize.ShloMosaic.Lib.Pointwise
public import proofs.«01_k».proof.Proof.Softmax
public import proofs.«01_k».proof.Proof.Block

@[expose] public section

set_option maxRecDepth 16384

noncomputable section

namespace Cert.Router

open Idealize.ShloMosaic Cert.KernelIdeal Cert.KernelIdeal.Gen

/-- A token's column of a transposed block. -/
def col (v : FVec Ideal S64x1024 .f32) (j : Fin 1024) : Row := fun e => v (ix2 e j)

/-- A round's value at a token is the greatest entry of the token's column. -/
theorem roundVal_apply (v : FVec Ideal S64x1024 .f32) (a : Fin 1) (j : Fin 1024) : roundVal v (ix2 a j) = top (col v j) := by
  pointwise [roundVal]
  rw [neg_inf]
  rfl

/-- The signed order of two words is the order of the integers they stand for. -/
theorem toInt_minsi (x y : BitVec 32) : (IntOp.minsi x y).toInt = min x.toInt y.toInt := by
  unfold IntOp.minsi
  simp only [BitVec.slt, decide_eq_true_eq]
  split <;> omega

/-- The integer of a small expert number's word. -/
theorem toInt_expert (e : Fin 64) : (BitVec.ofNat 32 e.val).toInt = e.val := by
  have he := e.isLt
  rw [BitVec.toInt_eq_toNat_of_lt (by rw [BitVec.toNat_ofNat]; omega), BitVec.toNat_ofNat]
  omega

/-- The least of the expert numbers that hold a property, the others reading 64. -/
theorem fold_minsi_expert (P : Fin 64 → Prop) [DecidablePred P] (p : Fin 64) (hp : P p) (hmin : ∀ e, P e → p ≤ e) :
    Finset.fold IntOp.minsi 2147483647#32 (fun e : Fin 64 => if P e then BitVec.ofNat 32 e.val else 64#32) Finset.univ
      = BitVec.ofNat 32 p.val := by
  apply BitVec.eq_of_toInt_eq
  rw [← Finset.fold_hom (op := IntOp.minsi) (op' := min) (m := BitVec.toInt) toInt_minsi, toInt_expert]
  have hlt := p.isLt
  apply le_antisymm
  · refine Finset.fold_min_le _ |>.mpr (.inr ⟨p, Finset.mem_univ _, ?_⟩)
    rw [if_pos hp, toInt_expert]
  · refine Finset.le_fold_min _ |>.mpr ⟨?_, fun e _ => ?_⟩
    · rw [show (2147483647#32).toInt = 2147483647 from by decide]
      omega
    · by_cases he : P e
      · rw [if_pos he, toInt_expert]
        exact_mod_cast hmin e he
      · rw [if_neg he, show (64#32).toInt = 64 from by decide]
        omega

/-- A round's expert at a token is the lowest that holds the greatest entry of the token's column. -/
theorem roundIdx_apply (v : FVec Ideal S64x1024 .f32) (a : Fin 1) (j : Fin 1024) :
    roundIdx v (ix2 a j) = BitVec.ofNat 32 (pick (col v j)) := by
  pointwise [roundIdx, expert]
  simp only [roundVal_apply]
  exact fold_minsi_expert (fun e => col v j e = top (col v j)) _ (apply_pick _) fun e he => pick_le _ e he

/-- Two expert numbers agree when their words do. -/
theorem expert_word (e p : Fin 64) : BitVec.ofNat 32 e.val = BitVec.ofNat 32 p.val ↔ e = p :=
  ⟨fun h => Fin.ext (by
    have := congrArg BitVec.toNat h
    have he := e.isLt
    have hp := p.isLt
    simp only [BitVec.toNat_ofNat] at this
    omega), fun h => by rw [h]⟩

/-- The masking constant is `-∞`. -/
theorem mask_value : Named.named (F := Ideal) Cert.KernelIdeal.κ "mask" (φ := .f32) 0xF149F2CA#32 = (⊥ : EReal) :=
  IdealRules.named_const.ideal_named_scalar _ _ _ _ rfl

/-- After a round a token's column is masked at the expert chosen. -/
theorem col_roundMask (v : FVec Ideal S64x1024 .f32) (j : Fin 1024) : col (roundMask v) j = mask (col v j) := by
  funext e
  unfold col
  pointwise [roundMask, expert]
  rw [roundIdx_apply, mask_value]
  show Scalar.select (BitVec.ofBool (BitVec.ofNat 32 e.val == BitVec.ofNat 32 (pick (col v j)).val)) ⊥ (v (ix2 e j))
    = if e = pick (col v j) then ⊥ else v (ix2 e j)
  by_cases h : e = pick (col v j)
  · rw [if_pos h, ← h, beq_self_eq_true]
    rfl
  · rw [if_neg h, beq_eq_false_iff_ne.mpr (mt (expert_word _ _).mp h)]
    rfl

/-- The columns after `r` rounds. -/
theorem col_left (x : Vec Ideal S1024x4096 .f32) (w : Vec Ideal S4096x64 .bf16) (j : Fin 1024) (r : ℕ) :
    col (left x w r) j = work (col (k0_pay3 x w) j) r := by
  induction r with
  | zero => rfl
  | succ r ih => rw [show left x w (r + 1) = roundMask (left x w r) from rfl, col_roundMask, ih]; rfl

/-- The columns the rounds begin with: the token's products with the experts' weights. -/
theorem col_pay3 (x : Vec Ideal S1024x4096 .f32) (w : Vec Ideal S4096x64 .bf16) (j : Fin 1024) (e : Fin 64) :
    col (k0_pay3 x w) j e = ∑ k : Fin 4096, x (ix2 j k) * w (ix2 k e) := by
  unfold col
  pointwise [k0_pay3]

end Cert.Router

end
-- ==== Proof.Token.lean ====
/- The kernel's blocks read at a token, in terms of the token's row of logits. -/
module

public import proofs.«01_k».proof.Proof.Round

@[expose] public section

set_option maxRecDepth 16384

noncomputable section

namespace Cert.Router

open Idealize.ShloMosaic Cert.KernelIdeal Cert.KernelIdeal.Gen

variable (x : Vec Ideal S1024x4096 .f32) (w : Vec Ideal S4096x64 .bf16)

/-- The stack of eight values, at a token. -/
theorem topVals_apply (r : Fin 8) (j : Fin 1024) : topVals x w (ix2 r j) = val (col (k0_pay3 x w) j) r := by
  pointwise [topVals]
  simp only [roundVal_apply, col_left]
  fin_cases r <;> rfl

/-- The stack of eight experts, at a token. -/
theorem topIdxs_apply (r : Fin 8) (j : Fin 1024) :
    topIdxs x w (ix2 r j) = BitVec.ofNat 32 (sel (col (k0_pay3 x w) j) r) := by
  pointwise [topIdxs]
  simp only [roundIdx_apply, col_left]
  fin_cases r <;> rfl

/-- The block of experts, at a token. -/
theorem idxBlock_apply (j : Fin 1024) (r : Fin 8) :
    idxBlock x w (ix2 j r) = BitVec.ofNat 32 (sel (col (k0_pay3 x w) j) r) := by
  pointwise [idxBlock]
  exact topIdxs_apply x w r j

/-- The block of probabilities, at a token. -/
theorem probsBlock_apply (j : Fin 1024) (r : Fin 8) : probsBlock x w (ix2 j r) = topProb (col (k0_pay3 x w) j) r := by
  pointwise [probsBlock, centred]
  simp only [topVals_apply]
  rfl

/-- The block's sum of probabilities, at an expert. -/
theorem sumBlock_apply (e : Fin 64) (a : Fin 1) :
    sumBlock x w (ix2 e a) = ∑ j : Fin 1024, prob (col (k0_pay3 x w) j) e := by
  pointwise [sumBlock, expAll]
  simp only [topVals_apply]
  rfl

end Cert.Router

end
-- ==== Proof.Rows.lean ====
/- The rows of logits the kernel works on, and what its blocks hold of each. -/
module

public import proofs.«01_k».proof.Proof.Points
public import proofs.«01_k».proof.Proof.Token

@[expose] public section

set_option maxRecDepth 16384

noncomputable section

namespace Cert.Router

open Idealize.ShloMosaic Cert.KernelIdeal Cert.KernelIdeal.Gen

variable (m : (ℓ : Loc nD τ sig) → Buf (Elt Ideal) ℓ) (c : Dev nD)

/-- All tokens, as the kernel's call receives them. -/
abbrev flatTokens : FVec Ideal S16384x4096 .f32 := V m c main_v0

/-- The weights, as the kernel's call receives them. -/
abbrev callWeights : FVec Ideal S4096x64 .bf16 := V m c main_v1

/-- The logits of token `n`: its product with every expert's weights. -/
def logits (n : Fin 16384) : Row :=
  fun e => ∑ k : Fin 4096, flatTokens m c (ix2 n k) * callWeights m c (ix2 k e)

/-- The number, among all tokens, of token `j` of block `t`. -/
def token (t : Fin cfg0.N) (j : Fin 1024) : Fin 16384 :=
  ⟨1024 * t.val + j.val, by have hN : cfg0.N = 16 := N_0; have := t.isLt; have := j.isLt; omega⟩

/-- Which block of tokens a grid point reads. -/
theorem index_tokens (t : Fin cfg0.N) : win0_0.index t 0 = t.val ∧ win0_0.index t 1 = 0 := by
  revert t; decide +kernel

/-- Every grid point reads the whole of the weights. -/
theorem index_weights (t : Fin cfg0.N) : win0_1.index t 0 = 0 ∧ win0_1.index t 1 = 0 := by
  revert t; decide +kernel

/-- A block of tokens, at an index. -/
theorem tokens_apply (t : Fin cfg0.N) (j : Fin 1024) (k : Fin 4096) :
    tokens m c t (ix2 j k) = flatTokens m c (ix2 (token t j) k) := by
  have hi := index_tokens t
  unfold tokens iblk
  rw [View.read_apply]
  show V m c main_v0 _ = V m c main_v0 _
  congr 1
  funext a
  apply Fin.ext
  match a with
  | ⟨0, _⟩ => show win0_0.index t 0 * 1024 + 1 * j.val = 1024 * t.val + j.val; rw [hi.1]; omega
  | ⟨1, _⟩ => show win0_0.index t 1 * 4096 + 1 * k.val = k.val; rw [hi.2]; omega

/-- The block of weights, at an index. -/
theorem weights_apply (t : Fin cfg0.N) (k : Fin 4096) (e : Fin 64) :
    weights m c t (ix2 k e) = callWeights m c (ix2 k e) := by
  have hi := index_weights t
  unfold weights iblk
  rw [View.read_apply]
  show V m c main_v1 _ = V m c main_v1 _
  congr 1
  funext a
  apply Fin.ext
  match a with
  | ⟨0, _⟩ => show win0_1.index t 0 * 4096 + 1 * k.val = k.val; rw [hi.1]; omega
  | ⟨1, _⟩ => show win0_1.index t 1 * 64 + 1 * e.val = e.val; rw [hi.2]; omega

/-- Column `j` of the block's logits is the row of logits of the block's token `j`. -/
theorem col_logits (t : Fin cfg0.N) (j : Fin 1024) :
    col (k0_pay3 (tokens m c t) (weights m c t)) j = logits m c (token t j) := by
  funext e
  rw [col_pay3]
  unfold logits
  exact Finset.sum_congr rfl fun k _ => by rw [tokens_apply, weights_apply]

/-- Adding a block's sums to the sums so far, at an index. -/
theorem pay1_apply (s acc : Vec Ideal S64x1 .f32) (e : Fin 64) (a : Fin 1) :
    k0_pay1 s acc (ix2 e a) = acc (ix2 e a) + s (ix2 e a) := by
  pointwise [k0_pay1]

/-- The sum of one expert's probabilities over the tokens of one block. -/
theorem block_sum (t : Fin cfg0.N) (e : Fin 64) (a : Fin 1) :
    sumBlock (tokens m c t) (weights m c t) (ix2 e a) = ∑ j : Fin 1024, prob (logits m c (token t j)) e := by
  rw [sumBlock_apply]
  exact Finset.sum_congr rfl fun j _ => by rw [col_logits]

/-- The running sum after a point, of one expert: the probabilities of the tokens of the blocks so far. -/
theorem sums_apply (e : Fin 64) (a : Fin 1) : ∀ (n : ℕ) (h : n < cfg0.N),
    sums m c n h (ix2 e a) = ∑ t : Fin (n + 1), ∑ j : Fin 1024, prob (logits m c (token (t.castLE h) j)) e
  | 0, h => by
    rw [Fin.sum_univ_one]
    exact block_sum m c ⟨0, h⟩ e a
  | n + 1, h => by
    rw [Fin.sum_univ_castSucc]
    refine (pay1_apply _ _ e a).trans ?_
    rw [sums_apply e a n, block_sum m c]
    rfl

end Cert.Router

end
-- ==== Proof.Arrays.lean ====
/- What the call's three result arrays hold when all grid points have run. -/
module

public import proofs.«01_k».proof.Proof.Rows

@[expose] public section

set_option maxRecDepth 16384

noncomputable section

namespace Cert.Router

open Idealize.ShloMosaic Cert.KernelIdeal Cert.KernelIdeal.Gen

variable (m : (ℓ : Loc nD τ sig) → Buf (Elt Ideal) ℓ) (c : Dev nD)

/-- The array of probabilities: at a token, the softmax of its eight greatest logits. -/
def probsArray : Vec Ideal S16384x8 .f32 := fun i => topProb (logits m c (i 0)) (i 1)

/-- The array of experts: at a token, the experts of its eight greatest logits. -/
def idxArray : Vec Ideal S16384x8 .i32 := fun i => BitVec.ofNat 32 (sel (logits m c (i 0)) (i 1 : Fin 8).val)

/-- The last grid point. -/
abbrev last : Fin cfg0.N := t0_15

/-- The one-entry array of the loss. -/
def lossArray : Vec Ideal S1x1 .f32 := k0_pay2 (sums m c last.val last.isLt)

/-- Which block of the probabilities, and of the experts, a grid point writes. -/
theorem index_tops (t : Fin cfg0.N) : (win0_2.index t 0 = t.val ∧ win0_2.index t 1 = 0)
    ∧ (win0_3.index t 0 = t.val ∧ win0_3.index t 1 = 0) := by
  revert t; decide +kernel

/-- The sizes of those blocks. -/
theorem size_tops (t : Fin cfg0.N) :
    (win0_2.size 0 = 1024 ∧ win0_2.xsize (grid0.coords t) 0 = 1024 ∧ win0_2.xsize (grid0.coords t) 1 = 8)
    ∧ (win0_3.size 0 = 1024 ∧ win0_3.xsize (grid0.coords t) 0 = 1024 ∧ win0_3.xsize (grid0.coords t) 1 = 8) := by
  revert t; decide +kernel

/-- A block of probabilities is the array's part at the block's tokens. -/
theorem probs_part (t : Fin cfg0.N) (j : S1024x8.Idx) (i : S16384x8.Idx) (h0 : (i 0).val = 1024 * t.val + (j 0).val)
    (h1 : (i 1).val = (j 1).val) : probsBlock (tokens m c t) (weights m c t) j = probsArray m c i := by
  obtain ⟨a, b, rfl⟩ : ∃ (a : Fin 1024) (b : Fin 8), j = ix2 a b := ⟨j 0, j 1, ValueIdx.eq_ix2 j⟩
  obtain rfl : i = ix2 (token t a) b := by
    funext d
    match d with
    | ⟨0, _⟩ => exact Fin.ext h0
    | ⟨1, _⟩ => exact Fin.ext h1
  rw [probsBlock_apply, col_logits]
  rfl

/-- A block of experts is the array's part at the block's tokens. -/
theorem idx_part (t : Fin cfg0.N) (j : S1024x8.Idx) (i : S16384x8.Idx) (h0 : (i 0).val = 1024 * t.val + (j 0).val)
    (h1 : (i 1).val = (j 1).val) : idxBlock (tokens m c t) (weights m c t) j = idxArray m c i := by
  obtain ⟨a, b, rfl⟩ : ∃ (a : Fin 1024) (b : Fin 8), j = ix2 a b := ⟨j 0, j 1, ValueIdx.eq_ix2 j⟩
  obtain rfl : i = ix2 (token t a) b := by
    funext d
    match d with
    | ⟨0, _⟩ => exact Fin.ext h0
    | ⟨1, _⟩ => exact Fin.ext h1
  rw [idxBlock_apply, col_logits]
  rfl

/-- What a grid point writes back of the probabilities is its block of the array. -/
theorem flushed_probs (t : Fin cfg0.N) :
    (dats m 0 c).flushed 2 t = ((cfg0.win 2).blk t).view.read (Elt Ideal) (probsArray m c) := by
  show (cfg0.win 2).cut (grid0.coords t) ((dats m 0 c).after 2 t) = _
  rw [after0_2, outs_probs]
  funext j
  rw [View.read_apply]
  obtain ⟨hi, _⟩ := index_tops t
  refine probs_part m c t j _ ?_ ?_
  · show win0_2.index t 0 * 1024 + 1 * (j 0).val = 1024 * t.val + (j 0).val
    rw [hi.1]; omega
  · show win0_2.index t 1 * 8 + 1 * (j 1).val = (j 1).val
    rw [hi.2]; omega

/-- What a grid point writes back of the experts is its block of the array. -/
theorem flushed_idx (t : Fin cfg0.N) :
    (dats m 0 c).flushed 3 t = ((cfg0.win 3).blk t).view.read (Elt Ideal) (idxArray m c) := by
  show (cfg0.win 3).cut (grid0.coords t) ((dats m 0 c).after 3 t) = _
  rw [after0_3, outs_idx]
  funext j
  rw [View.read_apply]
  obtain ⟨_, hi⟩ := index_tops t
  refine idx_part m c t j _ ?_ ?_
  · show win0_3.index t 0 * 1024 + 1 * (j 0).val = 1024 * t.val + (j 0).val
    rw [hi.1]; omega
  · show win0_3.index t 1 * 8 + 1 * (j 1).val = (j 1).val
    rw [hi.2]; omega

/-- The grid point that writes a token's row. -/
def pointOf (n : Fin 16384) : Fin cfg0.N :=
  ⟨n.val / 1024, by have hN : cfg0.N = 16 := N_0; have := n.isLt; omega⟩

/-- So the array of probabilities ends as stated. -/
theorem final_probs : (dats m 0 c).arrAt 2 cfg0.N = probsArray m c :=
  (dats m 0 c).arrAt_eq_of_cover 2 (probsArray m c) (fun t _ => flushed_probs m c t) fun i =>
    ⟨pointOf (i 0), flush0_2 _, by
      show i ∈ ((View.whole main_v2_0).slice (win0_2.rect (pointOf (i 0)))).set
      rw [View.set_slice_whole, Rect.mem_set_unit]
      obtain ⟨hi, _⟩ := index_tops (pointOf (i 0))
      obtain ⟨hs, _⟩ := size_tops (pointOf (i 0))
      have hp : (pointOf (i 0)).val = (i 0 : Nat) / 1024 := rfl
      have h1 : (i 1 : Nat) < 8 := (i 1).isLt
      intro a
      match a with
      | ⟨0, _⟩ =>
        show win0_2.index (pointOf (i 0)) 0 * win0_2.size 0 ≤ (i 0 : Nat) ∧ (i 0 : Nat)
          < win0_2.index (pointOf (i 0)) 0 * win0_2.size 0 + win0_2.xsize (grid0.coords (pointOf (i 0))) 0
        rw [hi.1, hs.1, hs.2.1, hp]; omega
      | ⟨1, _⟩ =>
        show win0_2.index (pointOf (i 0)) 1 * win0_2.size 1 ≤ (i 1 : Nat) ∧ (i 1 : Nat)
          < win0_2.index (pointOf (i 0)) 1 * win0_2.size 1 + win0_2.xsize (grid0.coords (pointOf (i 0))) 1
        rw [hi.2, hs.2.2]; omega⟩

/-- And so does the array of experts. -/
theorem final_idx : (dats m 0 c).arrAt 3 cfg0.N = idxArray m c :=
  (dats m 0 c).arrAt_eq_of_cover 3 (idxArray m c) (fun t _ => flushed_idx m c t) fun i =>
    ⟨pointOf (i 0), flush0_3 _, by
      show i ∈ ((View.whole main_v2_1).slice (win0_3.rect (pointOf (i 0)))).set
      rw [View.set_slice_whole, Rect.mem_set_unit]
      obtain ⟨_, hi⟩ := index_tops (pointOf (i 0))
      obtain ⟨_, hs⟩ := size_tops (pointOf (i 0))
      have hp : (pointOf (i 0)).val = (i 0 : Nat) / 1024 := rfl
      have h1 : (i 1 : Nat) < 8 := (i 1).isLt
      intro a
      match a with
      | ⟨0, _⟩ =>
        show win0_3.index (pointOf (i 0)) 0 * win0_3.size 0 ≤ (i 0 : Nat) ∧ (i 0 : Nat)
          < win0_3.index (pointOf (i 0)) 0 * win0_3.size 0 + win0_3.xsize (grid0.coords (pointOf (i 0))) 0
        rw [hi.1, hs.1, hs.2.1, hp]; omega
      | ⟨1, _⟩ =>
        show win0_3.index (pointOf (i 0)) 1 * win0_3.size 1 ≤ (i 1 : Nat) ∧ (i 1 : Nat)
          < win0_3.index (pointOf (i 0)) 1 * win0_3.size 1 + win0_3.xsize (grid0.coords (pointOf (i 0))) 1
        rw [hi.2, hs.2.2]; omega⟩

/-- The loss is written back by the last point alone. -/
theorem flushed_loss (t : Fin cfg0.N) (hf : (cfg0.win 5).flush t = true) :
    (dats m 0 c).flushed 5 t = ((cfg0.win 5).blk t).view.read (Elt Ideal) (lossArray m c) := by
  have hN : cfg0.N = 16 := N_0
  have h15 : t.val = 15 := by have := (flush0_5 t).mp hf; have := t.isLt; omega
  obtain rfl : t = last := Fin.ext h15
  show (cfg0.win 5).cut (grid0.coords last) ((dats m 0 c).after 5 last) = _
  rw [after0_5, outs_loss m c last rfl]
  have hz : (fun a => win0_5.index last a * main_v2_3.ty.shape.size a) = fun _ => 0 :=
    funext fun a => by fin_cases a <;> decide +kernel
  exact (Memref.read_access_unit_zero (Elt Ideal) main_v2_3 hz (fun a => by rw [congrFun hz a]; simp) (lossArray m c)).symm

/-- So the loss's array ends as stated. -/
theorem final_loss : (dats m 0 c).arrAt 5 cfg0.N = lossArray m c :=
  (dats m 0 c).arrAt_eq_of_cover 5 (lossArray m c) (flushed_loss m c) fun i =>
    ⟨last, (flush0_5 last).mpr rfl, by
      show i ∈ ((View.whole main_v2_3).slice (win0_5.rect last)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index last 0 * win0_5.size 0 ≤ (i 0 : Nat) ∧ (i 0 : Nat)
          < win0_5.index last 0 * win0_5.size 0 + win0_5.xsize (grid0.coords last) 0
        rw [show win0_5.index last 0 * win0_5.size 0 = 0 from by decide +kernel,
          show win0_5.xsize (grid0.coords last) 0 = 1 from by decide +kernel]; omega
      | ⟨1, _⟩ =>
        show win0_5.index last 1 * win0_5.size 1 ≤ (i 1 : Nat) ∧ (i 1 : Nat)
          < win0_5.index last 1 * win0_5.size 1 + win0_5.xsize (grid0.coords last) 1
        rw [show win0_5.index last 1 * win0_5.size 1 = 0 from by decide +kernel,
          show win0_5.xsize (grid0.coords last) 1 = 1 from by decide +kernel]; omega⟩

end Cert.Router

end
-- ==== Proof.Tail.lean ====
/- The kernel's run: its host code before and after the call. -/
module

public import proofs.«01_k».proof.Proof.Arrays

@[expose] public section

set_option maxRecDepth 16384

noncomputable section

namespace Cert.Router

open Idealize.ShloMosaic Idealize.SL.Sem Cert.KernelIdeal Cert.KernelIdeal.Gen

variable (m : (ℓ : Loc nD τ sig) → Buf (Elt Ideal) ℓ) (ρ : Dev nD → PrngReg) (c : Dev nD)

/-- The tokens, as launched. -/
abbrev argTokens : FVec Ideal S2x8192x4096 .f32 := m ((c.tc : Thread nD τ).loc main_arg0)

/-- The weights, as launched. -/
abbrev argWeights : FVec Ideal S4096x64 .f32 := m ((c.tc : Thread nD τ).loc main_arg1)

/-- The call receives the tokens flattened. -/
theorem flatTokens_eq : flatTokens m c = shapeCast S16384x4096 (argTokens m c) shapeCasts_S2x8192x4096_S16384x4096 := by
  unfold flatTokens V V0
  simp only [hostOps0, List.flatten_cons, List.flatten_nil, List.append_nil, List.cons_append, List.nil_append]
  after_results_simp
  rfl

/-- The call receives the weights with their format changed. -/
theorem callWeights_eq : callWeights m c = truncf .bf16 (argWeights m c) := by
  unfold callWeights V V0
  simp only [hostOps0, List.flatten_cons, List.flatten_nil, List.append_nil, List.cons_append, List.nil_append]
  after_results_simp

/-- The probabilities that the kernel returns. -/
def probsResult : Vec Ideal S2x8192x8 .f32 := shapeCast S2x8192x8 (probsArray m c) shapeCasts_S16384x8_S2x8192x8

/-- The experts that the kernel returns. -/
def idxResult : Vec Ideal S2x8192x8 .i32 := shapeCast S2x8192x8 (idxArray m c) shapeCasts_S16384x8_S2x8192x8

/-- The loss that the kernel returns. -/
def lossResult : Vec Ideal S_ .f32 := shapeCast S_ (lossArray m c) shapeCasts_S1x1_S_

/-- What the host code after the call finds in each of the call's arrays. -/
theorem exit_array (w : Fin cfg0.W) :
    Pipeline.withArrays (cfgs 0).spec c (V0 m c) (fun w => (dats m 0 c).arrAt w (cfgs 0).N)
      (Proc.tc.devRef (Pipeline.arrRef spec0 w)) = (dats m 0 c).arrAt w cfg0.N :=
  Pipeline.withArrays_arr spec0 (by decide) c _ _ w

/-- The first result is the array of probabilities with its tokens split in two batches. -/
theorem tail_probs : Pipeline.afterTail₀ cfgs (dats m) 0 (V0 m) [hostOps1] c main_v3 = probsResult m c := by
  unfold Pipeline.afterTail₀
  simp only [hostOps1, List.flatten_cons, List.flatten_nil, List.append_nil, List.cons_append, List.nil_append]
  after_results_simp
  exact congrArg (fun v : Vec Ideal S16384x8 .f32 => shapeCast S2x8192x8 v shapeCasts_S16384x8_S2x8192x8)
    ((exit_array m c 2).trans (final_probs m c))

/-- The second result is the array of experts with its tokens split in two batches. -/
theorem tail_idx : Pipeline.afterTail₀ cfgs (dats m) 0 (V0 m) [hostOps1] c main_v4 = idxResult m c := by
  unfold Pipeline.afterTail₀
  simp only [hostOps1, List.flatten_cons, List.flatten_nil, List.append_nil, List.cons_append, List.nil_append]
  after_results_simp
  exact congrArg (fun v : Vec Ideal S16384x8 .i32 => shapeCast S2x8192x8 v shapeCasts_S16384x8_S2x8192x8)
    ((exit_array m c 3).trans (final_idx m c))

/-- The third result is the one entry of the loss's array. -/
theorem tail_loss : Pipeline.afterTail₀ cfgs (dats m) 0 (V0 m) [hostOps1] c main_v5 = lossResult m c := by
  unfold Pipeline.afterTail₀
  simp only [hostOps1, List.flatten_cons, List.flatten_nil, List.append_nil, List.cons_append, List.nil_append]
  after_results_simp
  exact congrArg (fun v : Vec Ideal S1x1 .f32 => shapeCast S_ v shapeCasts_S1x1_S_)
    ((exit_array m c 5).trans (final_loss m c))

/-- The kernel runs, its results end as stated and its arguments unchanged. -/
theorem kernel_run : θ_run defs (onTc (τ := τ) (main (F := Ideal))) ⟨m, fun _ => 0, ρ⟩ fun r => ∀ c : Dev nD,
    r.2.mem ((c.tc : Thread nD τ).loc main_v3) = probsResult m c
    ∧ r.2.mem ((c.tc : Thread nD τ).loc main_v4) = idxResult m c
    ∧ r.2.mem ((c.tc : Thread nD τ).loc main_v5) = lossResult m c
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_probs m c),
      ((h c).2 main_v4 (Pipeline.mem_restRefs_of main_v4 (by decide) (by decide))).trans (tail_idx m c),
      ((h c).2 main_v5 (Pipeline.mem_restRefs_of main_v5 (by decide) (by decide))).trans (tail_loss m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Router

end
-- ==== Proof.Finite.lean ====
/- What the precondition says: every entry of both arguments is a real number. -/
module

public import proofs.«01_k».proof.Pre_finite
public import Idealize.ShloMosaic.PureOps.Ideal
public import Idealize.ShloMosaic.Lib.ReduceAll
public import Idealize.ShloMosaic.Lib.Pointwise

@[expose] public section

set_option maxRecDepth 16384

noncomputable section

namespace Cert.Router

open Idealize.ShloMosaic Cert.Pre_finite

/-- Being a real number. -/
def IsReal (a : EReal) : Prop := ∃ r : ℝ, a = r

/-- The bits `0x7F800000` are `+∞`. -/
theorem pos_inf : Ideal.ofBits FTy.f32 0x7F800000#32 = (⊤ : EReal) := by
  simp [Ideal.ofBits, Ideal.ieee]

/-- What has an absolute value below `+∞` is a real number. -/
theorem isReal_of_abs (a : EReal) (h : Ideal.cmp .olt (max a (-a)) (Ideal.ofBits FTy.f32 0x7F800000#32) = 1#1) : IsReal a := by
  rw [pos_inf] at h
  have hlt : max a (-a) < ⊤ := by
    by_contra hn
    simp [Ideal.cmp, hn] at h
  induction a using EReal.rec with
  | bot => simp at hlt
  | coe r => exact ⟨r, rfl⟩
  | top => simp at hlt

/-- A sum of products of real numbers is above `-∞`. -/
theorem bot_lt_sum {n : ℕ} (f g : Fin n → EReal) (hf : ∀ k, IsReal (f k)) (hg : ∀ k, IsReal (g k)) :
    ⊥ < ∑ k, f k * g k := by
  have : IsReal (∑ k, f k * g k) := by
    refine Finset.sum_induction _ IsReal ?_ ⟨0, rfl⟩ fun k _ => ?_
    · rintro _ _ ⟨a, rfl⟩ ⟨b, rfl⟩
      exact ⟨a + b, rfl⟩
    · obtain ⟨a, ha⟩ := hf k
      obtain ⟨b, hb⟩ := hg k
      exact ⟨a * b, by rw [ha, hb]; rfl⟩
  obtain ⟨r, hr⟩ := this
  rw [hr]
  exact EReal.bot_lt_coe r

variable [Facts]

instance : Subsingleton S_.Idx := ⟨fun _ _ => funext fun a => a.elim0⟩

/-- Under the precondition every entry of both arguments is a real number. -/
theorem isReal_args (x : FVec Ideal S2x8192x4096 .f32) (w : FVec Ideal S4096x64 .f32)
    (h : fn (F := Ideal) x w = fun _ => 1#1) : (∀ i, IsReal (x i)) ∧ ∀ i, IsReal (w i) := by
  have h0 := congrFun h (fun a => a.elim0)
  obtain ⟨hx, hw⟩ := IntOp.andi_eq_one.1 h0
  exact ⟨fun i => isReal_of_abs _ (Host.reduce_andi_all _ _ _ _ _ hx i),
    fun i => isReal_of_abs _ (Host.reduce_andi_all _ _ _ _ _ hw i)⟩

end Cert.Router

end
-- ==== Proof.Flatten.lean ====
/- Numbering the tokens of two batches in one row, and sums over them. -/
module

public import Idealize.ShloMosaic.Lib.Pointwise
public import Idealize.ShloMosaic.Lib.Pipeline.Value

@[expose] public section

set_option maxRecDepth 16384

noncomputable section

namespace Cert.Router

open Idealize.ShloMosaic

/-- The number, among all tokens, of token `s` of batch `b`. -/
def flat (b : Fin 2) (s : Fin 8192) : Fin 16384 :=
  ⟨8192 * b.val + s.val, by have := b.isLt; have := s.isLt; omega⟩

variable {α : Type} {d : ℕ}

/-- Flattening two batches of tokens, at a token. -/
theorem flatten_apply (x : (⟨3, ![2, 8192, d]⟩ : Shape).Idx → α)
    (h : (⟨3, ![2, 8192, d]⟩ : Shape).ShapeCasts ⟨2, ![16384, d]⟩) (b : Fin 2) (s : Fin 8192) (k : Fin d) :
    shapeCast ⟨2, ![16384, d]⟩ x h (ix2 (flat b s) k) = x (ix3 b s k) := by
  refine shapeCast_apply x h _ _ ?_
  rw [Shape.rowMajor_val_two, Shape.rowMajor_val_three]
  show (b.val * 8192 + s.val) * d + k.val = (8192 * b.val + s.val) * d + k.val
  rw [Nat.mul_comm b.val]

/-- Splitting the tokens in two batches, at a token. -/
theorem split_apply (x : (⟨2, ![16384, d]⟩ : Shape).Idx → α)
    (h : (⟨2, ![16384, d]⟩ : Shape).ShapeCasts ⟨3, ![2, 8192, d]⟩) (b : Fin 2) (s : Fin 8192) (k : Fin d) :
    shapeCast ⟨3, ![2, 8192, d]⟩ x h (ix3 b s k) = x (ix2 (flat b s) k) := by
  refine shapeCast_apply x h _ _ ?_
  rw [Shape.rowMajor_val_two, Shape.rowMajor_val_three]
  show (8192 * b.val + s.val) * d + k.val = (b.val * 8192 + s.val) * d + k.val
  rw [Nat.mul_comm b.val]

/-- A sum over `p` runs of `q` consecutive numbers is the sum over all of them. -/
theorem sum_runs {p q N : ℕ} (h : p * q = N) (f : Fin N → EReal) (g : Fin p → Fin q → Fin N)
    (hg : ∀ a b, (g a b).val = q * a.val + b.val) : ∑ a, ∑ b, f (g a b) = ∑ n, f n := by
  subst h
  rw [← Fintype.sum_prod_type' (fun a b => f (g a b)), ← finProdFinEquiv.sum_comp]
  refine Finset.sum_congr rfl fun x _ => congrArg f (Fin.ext ?_)
  rw [hg]
  show q * x.1.val + x.2.val = x.2.val + q * x.1.val
  omega

end Cert.Router

end
-- ==== Proof.RefTopK.lean ====
/- The reference's selection of eight of 64 logits, read at a token: the stable descending sort puts the rounds'
   values and experts in the rounds' order. -/
module

public import Idealize.ShloMosaic.Lib.Pointwise
public import proofs.«01_k».proof.Proof.Row
public import proofs.«01_k».proof.ReferenceIdeal

@[expose] public section

set_option maxRecDepth 16384

noncomputable section

namespace Cert.Router

open Idealize.ShloMosaic Cert.ReferenceIdeal

/-- The row of a token in an array over batch, sequence and experts. -/
def rowOf (v : FVec Ideal S2x8192x64 .f32) (b : Fin 2) (s : Fin 8192) : Row := fun e => v (ix3 b s e)

/-- The descending comparison of two logits. -/
theorem before_eq (x y : EReal) : (FloatOps.cmpfTotal (F := Ideal) (φ := .f32) .gt x y == 1#1) = decide (y < x) := by
  show (BitVec.ofBool (decide (y < x)) == 1#1) = _
  by_cases h : y < x <;> simp [h]

/-- An entry's position along the expert axis replaced. -/
theorem along_expert (b : Fin 2) (s : Fin 8192) (e k : Fin 64) :
    (ix3 b s e : S2x8192x64.Idx).along (2 : Fin 3) k = ix3 b s k := by
  funext a
  fin_cases a <;> rfl

variable (v : FVec Ideal S2x8192x64 .f32) (b : Fin 2) (s : Fin 8192) (r : Fin 8)

/-- The expert the sort puts at place `r`. -/
theorem sortedFrom_row (hv : ∀ e, ⊥ < rowOf v b s e) :
    sortedFrom (fun k k' : Fin 64 =>
      FloatOps.cmpfTotal (F := Ideal) (φ := .f32) .gt (v ((ix3 b s (r.castLE (by decide)) : S2x8192x64.Idx).along (2 : Fin 3) k))
        (v ((ix3 b s (r.castLE (by decide)) : S2x8192x64.Idx).along (2 : Fin 3) k')) == 1#1) (r.castLE (by decide))
      = sel (rowOf v b s) r := by
  simp only [before_eq, along_expert]
  exact sortedFrom_eq_sel hv r

/-- The slice of the first eight places, read at a place. -/
theorem first_eight {α : Type} (x : S2x8192x64.Idx → α) (h : S2x8192x64.Slices (fun _ => 0) S2x8192x8) :
    extractStridedSlice S2x8192x8 (fun _ => 0) x h (ix3 b s r) = x (ix3 b s (r.castLE (by decide))) := by
  unfold extractStridedSlice
  refine congrArg x (funext fun a => ?_)
  fin_cases a <;> exact Fin.ext (Nat.zero_add _)

/-- The values the reference selects at a token are the rounds' values. -/
theorem topK_val (h : S2x8192x64.Slices (fun _ => 0) S2x8192x8) (hv : ∀ e, ⊥ < rowOf v b s e) :
    (Host.topK S2x8192x8 2 (FloatOps.cmpfTotal (F := Ideal) (φ := .f32) .gt) v h).1 (ix3 b s r) = val (rowOf v b s) r := by
  rw [val_eq hv (lt_of_lt_of_le r.isLt (by decide)), ← sortedFrom_row v b s r hv]
  dsimp only [Host.topK]
  rw [first_eight]
  exact congrArg v (along_expert b s (r.castLE (by decide)) _)

/-- The experts the reference selects at a token are the rounds' experts. -/
theorem topK_sel (h : S2x8192x64.Slices (fun _ => 0) S2x8192x8) (hv : ∀ e, ⊥ < rowOf v b s e) :
    (Host.topK S2x8192x8 2 (FloatOps.cmpfTotal (F := Ideal) (φ := .f32) .gt) v h).2 (ix3 b s r)
      = BitVec.ofNat 32 (sel (rowOf v b s) r) := by
  dsimp only [Host.topK]
  rw [first_eight]
  dsimp only [Host.sort2]
  rw [dif_pos (by decide)]
  dsimp only
  rw [dif_pos (by decide)]
  exact (congrArg (iotaInDim S2x8192x64 32 (2 : Fin 3)) ((along_expert b s _ _).trans
    (congrArg (ix3 b s) (sortedFrom_row v b s r hv)))).trans rfl

end Cert.Router

end
-- ==== Proof.RefValue.lean ====
/- What the reference's three results hold at each index. -/
module

public import proofs.«01_k».proof.Proof.RefTopK
public import proofs.«01_k».proof.Proof.Softmax
public import proofs.«01_k».proof.Proof.Gen.ReferenceIdeal.Run

@[expose] public section

set_option maxRecDepth 16384

noncomputable section

namespace Cert.Router

open Idealize.ShloMosaic Cert.ReferenceIdeal Cert.ReferenceIdeal.Gen

/-- The reference's logits. -/
def refLogits (x : FVec Ideal S2x8192x4096 .f32) (w : FVec Ideal S4096x64 .f32) : FVec Ideal S2x8192x64 .f32 :=
  Host.dotGeneral dot_S2x8192x4096_S4096x64_S2x8192x64_2_0_01_1_n_n none x w

/-- The reference's eight greatest logits of each token. -/
def refVals (v : FVec Ideal S2x8192x64 .f32) : FVec Ideal S2x8192x8 .f32 :=
  (Host.topK S2x8192x8 2 (FloatOps.cmpfTotal .gt) v sliceFits_S2x8192x64_S2x8192x8).1

/-- Their experts. -/
def refIdxs (v : FVec Ideal S2x8192x64 .f32) : IVec S2x8192x8 32 :=
  (Host.topK S2x8192x8 2 (FloatOps.cmpfTotal .gt) v sliceFits_S2x8192x64_S2x8192x8).2

/-- The greatest entry of each token. -/
def refMax {n : ℕ} (v : FVec Ideal ⟨3, ![2, 8192, n]⟩ .f32) (h : (⟨3, ![2, 8192, n]⟩ : Shape).ReducesTo [2] S2x8192) :
    FVec Ideal S2x8192 .f32 :=
  maximumf (broadcastInDim S2x8192 ![] bcast_S_S2x8192 (constant S_ .f32 0xFF800000#32))
    (Host.reduce FloatOps.maximumf v (constant S_ .f32 0xFF800000#32) h h_S_)

/-- The exponentials of the eight logits less their greatest. -/
def refExp8 (u : FVec Ideal S2x8192x8 .f32) : FVec Ideal S2x8192x8 .f32 :=
  Host.exp (subf u (broadcastInDim S2x8192x8 ![0, 1, 2] bcast_S2x8192x1_S2x8192x8_0_1_2
    (broadcastInDim S2x8192x1 ![0, 1] bcast_S2x8192_S2x8192x1_0_1
      (refMax u reducesTo_S2x8192x8_S2x8192_d2))))

/-- The softmax of the eight logits. -/
def refProbs (u : FVec Ideal S2x8192x8 .f32) : FVec Ideal S2x8192x8 .f32 :=
  Host.divf (refExp8 u) (broadcastInDim S2x8192x8 ![0, 1, 2] bcast_S2x8192x1_S2x8192x8_0_1_2
    (broadcastInDim S2x8192x1 ![0, 1] bcast_S2x8192_S2x8192x1_0_1
      (Host.reduceAdd (refExp8 u) (constant S_ .f32 0x00000000#32) reducesTo_S2x8192x8_S2x8192_d2 h_S_)))

/-- The exponentials of all logits less each token's greatest. -/
def refExp (v : FVec Ideal S2x8192x64 .f32) : FVec Ideal S2x8192x64 .f32 :=
  Host.exp (subf v (broadcastInDim S2x8192x64 ![0, 1, 2] bcast_S2x8192x1_S2x8192x64_0_1_2
    (broadcastInDim S2x8192x1 ![0, 1] bcast_S2x8192_S2x8192x1_0_1
      (refMax v reducesTo_S2x8192x64_S2x8192_d2))))

/-- The softmax of all logits. -/
def refAll (v : FVec Ideal S2x8192x64 .f32) : FVec Ideal S2x8192x64 .f32 :=
  Host.divf (refExp v) (broadcastInDim S2x8192x64 ![0, 1, 2] bcast_S2x8192x1_S2x8192x64_0_1_2
    (broadcastInDim S2x8192x1 ![0, 1] bcast_S2x8192_S2x8192x1_0_1
      (Host.reduceAdd (refExp v) (constant S_ .f32 0x00000000#32) reducesTo_S2x8192x64_S2x8192_d2 h_S_)))

/-- The mean of each expert's probability over all tokens. -/
def refMean (p : FVec Ideal S2x8192x64 .f32) : FVec Ideal S64 .f32 :=
  Host.divf (Host.reduceAdd p (constant S_ .f32 0x00000000#32) reducesTo_S2x8192x64_S64_d0_1 h_S_)
    (broadcastInDim S64 ![] bcast_S_S64 (constant S_ .f32 0x46800000#32))

/-- The loss of the mean probabilities. -/
def refLoss (p : FVec Ideal S64 .f32) : FVec Ideal S_ .f32 :=
  mulf (constant S_ .f32 0x3C23D70A#32) (Host.reduceAdd
    (mulf p (Host.log (addf p (broadcastInDim S64 ![] bcast_S_S64 (constant S_ .f32 0x322BCC77#32)))))
    (constant S_ .f32 0x00000000#32) reducesTo_S64_S_d0 h_S_)

/-- The reference's logit of a token for an expert is the token's product with the expert's weights. -/
theorem refLogits_row (x : FVec Ideal S2x8192x4096 .f32) (w : FVec Ideal S4096x64 .f32) (b : Fin 2) (s : Fin 8192) :
    rowOf (refLogits x w) b s = fun e => ∑ k : Fin 4096, x (ix3 b s k) * w (ix2 k e) := by
  funext e
  unfold rowOf
  pointwise [refLogits]

/-- A maximum along the last of three axes. -/
theorem reduce_max {p q n : ℕ} (v : FVec Ideal ⟨3, ![p, q, n]⟩ .f32) (c : FVec Ideal S_ .f32)
    (h : (⟨3, ![p, q, n]⟩ : Shape).ReducesTo [2] ⟨2, ![p, q]⟩) (b : Fin p) (s : Fin q) :
    Host.reduce FloatOps.maximumf v c h h_S_ (ix2 b s)
      = Finset.univ.fold max (c (Shape.Idx.first h_S_)) fun k : Fin n => v (ix3 b s k) := by
  pointwise []

/-- The greatest entry of a token. -/
theorem refMax_apply {n : ℕ} (v : FVec Ideal ⟨3, ![2, 8192, n]⟩ .f32) (h : (⟨3, ![2, 8192, n]⟩ : Shape).ReducesTo [2] S2x8192)
    (b : Fin 2) (s : Fin 8192) : refMax v h (ix2 b s) = Finset.univ.fold max ⊥ fun k : Fin n => v (ix3 b s k) := by
  show max (Ideal.ofBits .f32 0xFF800000#32) (Host.reduce FloatOps.maximumf v (constant S_ .f32 0xFF800000#32) h h_S_ (ix2 b s)) = _
  rw [neg_inf, bot_sup_eq, reduce_max]
  show Finset.fold max (Ideal.ofBits .f32 0xFF800000#32) _ _ = _
  rw [neg_inf]

variable (v : FVec Ideal S2x8192x64 .f32) (b : Fin 2) (s : Fin 8192)

/-- The reference's probabilities at a token. -/
theorem refProbs_apply (hv : ∀ e, ⊥ < rowOf v b s e) (r : Fin 8) :
    refProbs (refVals v) (ix3 b s r) = topProb (rowOf v b s) r := by
  pointwise [refProbs, refExp8]
  have h (k : Fin 8) : refVals v (ix3 b s k) = val (rowOf v b s) k := topK_val v b s k _ hv
  simp only [refMax_apply, h, fold_val hv]
  rfl

/-- The reference's experts at a token. -/
theorem refIdxs_apply (hv : ∀ e, ⊥ < rowOf v b s e) (r : Fin 8) :
    refIdxs v (ix3 b s r) = BitVec.ofNat 32 (sel (rowOf v b s) r) := topK_sel v b s r _ hv

/-- A sum over batch and sequence, at an expert. -/
theorem sum_tokens (h : S2x8192x64.ReducesTo [0, 1] S64) (f : S2x8192x64.Idx → EReal) (z : EReal) (e : Fin 64) :
    Ideal.hostReduceAdd h f z (ix1 e) = z + ∑ b : Fin 2, ∑ s : Fin 8192, f (ix3 b s e) := by
  have hdrop (b : Fin 2) (s : Fin 8192) (c : Fin 64) : h.drop (ix3 b s c) = ix1 e ↔ c = e := by
    have hval : (h.drop (ix3 b s c) 0).val = c.val := h.drop_apply_val_of_eq (ix3 b s c) 0 2 (by decide)
    constructor
    · intro hc
      rw [hc] at hval
      exact Fin.ext hval.symm
    · rintro rfl
      funext a
      fin_cases a
      exact Fin.ext hval
  unfold Ideal.hostReduceAdd
  rw [Finset.sum_filter, sum_idx3]
  simp only [hdrop, Finset.sum_ite_eq', Finset.mem_univ, if_true]

/-- The reference's probability of an expert at a token. -/
theorem refAll_apply (e : Fin 64) : refAll v (ix3 b s e) = prob (rowOf v b s) e := by
  pointwise [refAll, refExp]
  simp only [refMax_apply]
  rfl

/-- The reference's mean of an expert's probability. -/
theorem refMean_apply (p : FVec Ideal S2x8192x64 .f32) (e : Fin 64) :
    refMean p (ix1 e) = Ideal.div (∑ b : Fin 2, ∑ s : Fin 8192, p (ix3 b s e)) (Ideal.ofBits .f32 0x46800000#32) := by
  pointwise [refMean]
  rw [sum_tokens, zero_add]

/-- The reference's loss. -/
theorem refLoss_apply (p : FVec Ideal S64 .f32) (j : S_.Idx) : refLoss p j = loss fun e => p (ix1 e) := by
  pointwise [refLoss]
  rfl

end Cert.Router

end
-- ==== Proof.Equation.lean ====
/- The kernel's three results are the reference's. -/
module

public import proofs.«01_k».proof.Proof.Tail
public import proofs.«01_k».proof.Proof.Finite
public import proofs.«01_k».proof.Proof.Flatten
public import proofs.«01_k».proof.Proof.RefValue

@[expose] public section

set_option maxRecDepth 16384

noncomputable section

namespace Cert.Router

open Idealize.ShloMosaic Cert.KernelIdeal Cert.KernelIdeal.Gen

variable (m : (ℓ : Loc nD τ sig) → Buf (Elt Ideal) ℓ) (c : Dev nD)

/-- The reference's logits of the kernel's arguments. -/
abbrev argLogits : FVec Ideal Cert.ReferenceIdeal.S2x8192x64 .f32 := refLogits (argTokens m c) (argWeights m c)

/-- The kernel's row of logits of a token is the reference's. -/
theorem logits_eq (b : Fin 2) (s : Fin 8192) : logits m c (flat b s) = rowOf (argLogits m c) b s := by
  rw [refLogits_row]
  funext e
  unfold logits
  refine Finset.sum_congr rfl fun k _ => ?_
  rw [flatTokens_eq, callWeights_eq]
  exact congrArg (· * _) (flatten_apply _ _ b s k)

/-- The sum of an expert's probabilities over all points is the sum over all tokens. -/
theorem sums_last (e : Fin 64) : sums m c last.val last.isLt (ix2 e (0 : Fin 1))
    = ∑ b : Fin 2, ∑ s : Fin 8192, prob (rowOf (argLogits m c) b s) e := by
  refine (sums_apply m c e 0 last.val last.isLt).trans ?_
  refine (sum_runs (p := 16) (q := 1024) (N := 16384) rfl (fun n => prob (logits m c n) e)
    (fun t j => token (t.castLE last.isLt) j) fun _ _ => rfl).trans ?_
  rw [← sum_runs (p := 2) (q := 8192) rfl (fun n => prob (logits m c n) e) flat fun _ _ => rfl]
  exact Finset.sum_congr rfl fun b _ => Finset.sum_congr rfl fun s _ => by rw [logits_eq]

/-- Dividing by the number of tokens is multiplying by its reciprocal. -/
theorem div_tokens (x : EReal) :
    x * Ideal.ofBits .f32 0x38800000#32 = Ideal.div x (Ideal.ofBits .f32 0x46800000#32) := by
  have h1 : Ideal.ofBits .f32 0x38800000#32 = (((16384 : ℝ)⁻¹ : ℝ) : EReal) := by
    simp [Ideal.ofBits, Ideal.ieee, -EReal.coe_mul]
    norm_num
  have h2 : Ideal.ofBits .f32 0x46800000#32 = ((16384 : ℝ) : EReal) := by
    simp [Ideal.ofBits, Ideal.ieee, -EReal.coe_mul]
    norm_num
  rw [h1, h2]
  unfold Ideal.div
  rw [if_neg (by norm_num), EReal.coe_inv]

/-- The loss that the kernel computes from its sums. -/
theorem pay2_apply (acc : Vec Ideal S64x1 .f32) (a b : Fin 1) :
    k0_pay2 acc (ix2 a b) = loss fun e => acc (ix2 e (0 : Fin 1)) * Ideal.ofBits .f32 0x38800000#32 := by
  pointwise [k0_pay2]
  simp only [Fin.sum_univ_one]
  rfl

/-- The third result is the reference's loss. -/
theorem loss_eq : lossResult m c = refLoss (refMean (refAll (argLogits m c))) := by
  funext j
  rw [refLoss_apply]
  unfold lossResult lossArray
  rw [shapeCast_apply _ _ j (ix2 (0 : Fin 1) (0 : Fin 1)) (by
    obtain rfl : j = fun a => a.elim0 := Subsingleton.elim _ _
    decide), pay2_apply]
  congr 1
  funext e
  rw [refMean_apply, sums_last, div_tokens]
  simp only [refAll_apply]

/-- Under the precondition every logit is above `-∞`. -/
theorem bot_lt_logit [Cert.Pre_finite.Facts]
    (h : Cert.Pre_finite.fn (F := Ideal) (argTokens m c) (argWeights m c) = fun _ => 1#1) (b : Fin 2) (s : Fin 8192)
    (e : Fin 64) : ⊥ < rowOf (argLogits m c) b s e := by
  obtain ⟨hx, hw⟩ := isReal_args _ _ h
  rw [refLogits_row]
  exact bot_lt_sum _ _ (fun k => hx _) fun k => hw _

/-- The first result is the reference's probabilities. -/
theorem probs_eq (hv : ∀ b s e, ⊥ < rowOf (argLogits m c) b s e) :
    probsResult m c = refProbs (refVals (argLogits m c)) := by
  funext i
  obtain ⟨b, s, r, rfl⟩ : ∃ (b : Fin 2) (s : Fin 8192) (r : Fin 8), i = ix3 b s r := ⟨i 0, i 1, i 2, ValueIdx.eq_ix3 i⟩
  refine Eq.trans ?_ (refProbs_apply _ b s (hv b s) r).symm
  refine (split_apply (probsArray m c) _ b s r).trans ?_
  rw [← logits_eq]
  rfl

/-- The second result is the reference's experts. -/
theorem idx_eq (hv : ∀ b s e, ⊥ < rowOf (argLogits m c) b s e) : idxResult m c = refIdxs (argLogits m c) := by
  funext i
  obtain ⟨b, s, r, rfl⟩ : ∃ (b : Fin 2) (s : Fin 8192) (r : Fin 8), i = ix3 b s r := ⟨i 0, i 1, i 2, ValueIdx.eq_ix3 i⟩
  refine Eq.trans ?_ (refIdxs_apply _ b s (hv b s) r).symm
  refine (split_apply (idxArray m c) _ b s r).trans ?_
  rw [← logits_eq]
  rfl

end Cert.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import Idealize.ShloMosaic.Adequacy
public import Idealize.ShloMosaic.Init
public import Idealize.ShloMosaic.PureOps.IdealRules
public import proofs.«01_k».proof.Proof.Equation

@[expose] public section

noncomputable section

namespace Cert.Proof

open Idealize.ShloMosaic Idealize.SL.Sem Cert.Router

/-- The idealized kernel's frame. -/
theorem frame_ideal : Cert.quiescent_KernelIdeal :=
  fun m ρ _ => Cert.KernelIdeal.Gen.frame m ρ

/-- The reference runs, leaves its arguments unchanged and every counter at zero: it has no semaphore. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The mask's constant is named `-∞`. -/
theorem preserves : Cert.preserves_Kernel_KernelIdeal :=
  IdealRules.named_const.statement Cert.KernelIdeal.κ "mask" .f32 0xF149F2CA#32 ⊥ rfl

/-- The kernel's results are the reference's, for finite arguments. -/
theorem algebraic : Cert.algebraic_KernelIdeal_ReferenceIdeal_pre_finite := by
  intro m ρ m' ρ' hpre hargs
  refine ⟨probsResult m, idxResult m, lossResult m, kernel_run m ρ, ?_⟩
  refine (θ_run Cert.ReferenceIdeal.defs _ _).mono (fun r h c => ?_) (Cert.ReferenceIdeal.Value.run (F := Ideal) m' ρ')
  obtain ⟨h1, h2, h3, ha, hb⟩ := h c
  have hv := bot_lt_logit m c (hpre c)
  obtain ⟨hx, hw⟩ := hargs c
  rw [hx, hw] at h1 h2 h3
  exact ⟨h1.trans (probs_eq m c hv).symm, h2.trans (idx_eq m c hv).symm, h3.trans (loss_eq m c).symm, ha, hb⟩

/-- All claims. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    frame_ideal,
    fun m ρ _ => frame_ideal m ρ trivial,
    frame_reference,
    fun m ρ _ => frame_reference m ρ trivial,
    preserves,
    algebraic⟩

end Cert.Proof

end
